-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "neg_big" .f32 0xF149F2CA#32 ⊥
  ∧ IdealRules.named_const.Statement Cert.KernelIdeal.κ "zero_weight" .f32 0x431C0000#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v28)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x8192x3072 : Shape := ⟨3, ![4, 8192, 3072]⟩
abbrev S1x1 : Shape := ⟨2, ![1, 1]⟩
abbrev S1x128 : Shape := ⟨2, ![1, 128]⟩
abbrev S_ : Shape := ⟨0, ![]⟩

class Facts : Prop where
  bcast_S_S4x8192x3072 : S_.BroadcastsInDim S4x8192x3072 (![] : Fin 0 → Fin S4x8192x3072.rank)
  reducesTo_S4x8192x3072_S_d0_1_2 : S4x8192x3072.ReducesTo [0, 1, 2] S_
  h_S_ : 0 < S_.numel
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S4x8192x3072 .f32) (main_arg1 : FVec F S1x1 .f32) (main_arg2 : FVec F S1x128 .f32) : IVec S_ 1 :=
  let main_v0 : FVec F S4x8192x3072 .f32 := Host.absf main_arg0
  let main_cst : FVec F S_ .f32 := constant S_ .f32 0x7F800000#32
  let main_v1 : FVec F S4x8192x3072 .f32 := broadcastInDim S4x8192x3072 ![] bcast_S_S4x8192x3072 main_cst
  let main_v2 : IVec S4x8192x3072 1 := cmpf .olt main_v0 main_v1
  let main_c : IVec S_ 1 := constantI S_ 1 1#1
  let main_v3 : IVec S_ 1 := (fun x v => Host.reduce IntOp.andi x v reducesTo_S4x8192x3072_S_d0_1_2 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  main_v8
-- ==== Kernel.lean ====
abbrev S4x8192x3072 : Shape := ⟨3, ![4, 8192, 3072]⟩
abbrev S1x1 : Shape := ⟨2, ![1, 1]⟩
abbrev S1x128 : Shape := ⟨2, ![1, 128]⟩
abbrev S4 : Shape := ⟨1, ![4]⟩
abbrev S4x8192x512 : Shape := ⟨3, ![4, 8192, 512]⟩
abbrev S1x512x128 : Shape := ⟨3, ![1, 512, 128]⟩
abbrev S1x8192x128 : Shape := ⟨3, ![1, 8192, 128]⟩
abbrev S1024x256 : Shape := ⟨2, ![1024, 256]⟩
abbrev S1024x128 : Shape := ⟨2, ![1024, 128]⟩
abbrev S2x1024x128 : Shape := ⟨3, ![2, 1024, 128]⟩
abbrev S2x1024x512 : Shape := ⟨3, ![2, 1024, 512]⟩
abbrev S2x16 : Shape := ⟨2, ![2, 16]⟩
abbrev S512x128 : Shape := ⟨2, ![512, 128]⟩
abbrev S1 : Shape := ⟨1, ![1]⟩
abbrev S1x512 : Shape := ⟨2, ![1, 512]⟩
abbrev S512 : Shape := ⟨1, ![512]⟩
abbrev S512x1 : Shape := ⟨2, ![512, 1]⟩
abbrev S1x512x1 : Shape := ⟨3, ![1, 512, 1]⟩
abbrev S1x1x1 : Shape := ⟨3, ![1, 1, 1]⟩
abbrev S1024 : Shape := ⟨1, ![1024]⟩
abbrev S1024x1 : Shape := ⟨2, ![1024, 1]⟩
abbrev S1024x512 : Shape := ⟨2, ![1024, 512]⟩
abbrev S1x1024x512 : Shape := ⟨3, ![1, 1024, 512]⟩
abbrev S1x1024x128 : Shape := ⟨3, ![1, 1024, 128]⟩
abbrev S512x256 : Shape := ⟨2, ![512, 256]⟩

abbrev nBuf : Space → Nat
  | .hbm => 6
  | .vmem => 14
  | .smem => 3
  | _ => 0

abbrev bufTy : (tb : Table) → Fin (tcTables nBuf tb) → BufTy
  | .hbm, ⟨0, _⟩ => ⟨S4x8192x3072, .f32⟩
  | .hbm, ⟨1, _⟩ => ⟨S1x1, .f32⟩
  | .hbm, ⟨2, _⟩ => ⟨S1x128, .f32⟩
  | .hbm, ⟨3, _⟩ => ⟨S4, .f32⟩
  | .hbm, ⟨4, _⟩ => ⟨S4x8192x3072, .bf16⟩
  | .hbm, ⟨5, _⟩ => ⟨S4x8192x512, .f32⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x128, .f32⟩
  | .local _ .vmem, ⟨7, _⟩ => ⟨S1x512x128, .f32⟩
  | .local _ .vmem, ⟨8, _⟩ => ⟨S1x512x128, .f32⟩
  | .local _ .vmem, ⟨9, _⟩ => ⟨S1024x256, .f32⟩
  | .local _ .vmem, ⟨10, _⟩ => ⟨S1024x128, .f32⟩
  | .local _ .vmem, ⟨11, _⟩ => ⟨S2x1024x128, .f32⟩
  | .local _ .vmem, ⟨12, _⟩ => ⟨S2x1024x128, .f32⟩
  | .local _ .vmem, ⟨13, _⟩ => ⟨S2x1024x512, .f32⟩
  | .local _ .smem, ⟨0, _⟩ => ⟨S1x1, .f32⟩
  | .local _ .smem, ⟨1, _⟩ => ⟨S4, .f32⟩
  | .local _ .smem, ⟨2, _⟩ => ⟨S2x16, .f32⟩
  | _, _ => ⟨S4x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_stg3_0 : Ref sig .tc := ⟨.smem, 0, rfl⟩
abbrev cc0_stg4_0 : Ref sig .tc := ⟨.smem, 1, rfl⟩
abbrev cc0_scratch5 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 4, 16], ![false, false, false]⟩

def k0_off1 (i : grid0.Coords) : Fin 1 → Nat :=
  let arg1 : BitVec 32 := BitVec.ofNat 32 (i 1).val
  let v17 : Index := Scalar.indexCast arg1
  ![v17.toNat]
def k0_cond1 (i : grid0.Coords) : BitVec 1 :=
  let arg2 : BitVec 32 := BitVec.ofNat 32 (i 2).val
  let c0_i32 : BitVec 32 := 0#32
  let v33 : BitVec 1 := Scalar.cmpi .eq arg2 c0_i32
  let v34 : BitVec 32 := Scalar.extui v33
  let c0_i32_14 : BitVec 32 := 0#32
  let v35 : BitVec 1 := Scalar.cmpi .ne v34 c0_i32_14
  v35

@[reducible] def k0_t1_loop : Scf.Loop 32 :=
  let c0_i32_73 : BitVec 32 := 0#32
  let c16_i32 : BitVec 32 := 16#32
  let v179 : BitVec 32 := Scalar.addi c0_i32_73 c16_i32
  let c1_i32_74 : BitVec 32 := 1#32
  ⟨c0_i32_73, v179, c1_i32_74⟩
def k0_mult1 (k0_t1 : Fin k0_t1_loop.trips) : BitVec 32 :=
  let c0_i32_73 : BitVec 32 := 0#32
  let c1_i32_74 : BitVec 32 := 1#32
  let arg16 : BitVec 32 := Scf.iv c0_i32_73 c1_i32_74 k0_t1
  let c512_i32_76 : BitVec 32 := 512#32
  let v181 : BitVec 32 := Scalar.muli arg16 c512_i32_76
  v181
def k0_off2 (k0_t1 : Fin k0_t1_loop.trips) : Fin 3 → Nat :=
  let c0_77 : Index := 0#32
  let c0_i32_73 : BitVec 32 := 0#32
  let c1_i32_74 : BitVec 32 := 1#32
  let arg16 : BitVec 32 := Scf.iv c0_i32_73 c1_i32_74 k0_t1
  let c512_i32_76 : BitVec 32 := 512#32
  let v181 : BitVec 32 := Scalar.muli arg16 c512_i32_76
  let v182 : BitVec 32 := v181
  let v183 : Index := Scalar.indexCast v182
  let c0_78 : Index := 0#32
  ![0, v183.toNat, 0]
def k0_off3 (k0_t1 : Fin k0_t1_loop.trips) : Fin 2 → Nat :=
  let c0_85 : Index := 0#32
  let c0_i32_73 : BitVec 32 := 0#32
  let c1_i32_74 : BitVec 32 := 1#32
  let arg16 : BitVec 32 := Scf.iv c0_i32_73 c1_i32_74 k0_t1
  let v206 : Index := Scalar.indexCast arg16
  ![0, v206.toNat]
def k0_off4 (k0_t1 : Fin k0_t1_loop.trips) : Fin 2 → Nat :=
  let c1_86 : Index := 1#32
  let c0_i32_73 : BitVec 32 := 0#32
  let c1_i32_74 : BitVec 32 := 1#32
  let arg16 : BitVec 32 := Scf.iv c0_i32_73 c1_i32_74 k0_t1
  let v208 : Index := Scalar.indexCast arg16
  ![1, v208.toNat]
def k0_mult2 (i : grid0.Coords) : BitVec 32 :=
  let arg2 : BitVec 32 := BitVec.ofNat 32 (i 2).val
  let c512_i32_18 : BitVec 32 := 512#32
  let v62 : BitVec 32 := Scalar.muli arg2 c512_i32_18
  v62
def k0_off5 (i : grid0.Coords) : Fin 3 → Nat :=
  let c0_19 : Index := 0#32
  let arg2 : BitVec 32 := BitVec.ofNat 32 (i 2).val
  let c512_i32_18 : BitVec 32 := 512#32
  let v62 : BitVec 32 := Scalar.muli arg2 c512_i32_18
  let v63 : BitVec 32 := v62
  let v64 : Index := Scalar.indexCast v63
  let c0_20 : Index := 0#32
  ![0, v64.toNat, 0]
def k0_off6 (i : grid0.Coords) (arg16 : BitVec 32) : Fin 2 → Nat :=
  let c0_74 : Index := 0#32
  let arg2 : BitVec 32 := BitVec.ofNat 32 (i 2).val
  let c2_i32 : BitVec 32 := 2#32
  let v179 : BitVec 32 := Scalar.addi arg16 c2_i32
  let v180 : BitVec 32 := Scalar.subi arg2 v179
  let c0_i32_71 : BitVec 32 := 0#32
  let v181 : BitVec 32 := Scalar.maxsi v180 c0_i32_71
  let v188 : Index := Scalar.indexCast v181
  ![0, v188.toNat]

def k0_off7 (i : grid0.Coords) (arg16 : BitVec 32) : Fin 2 → Nat :=
  let c1_77 : Index := 1#32
  let arg2 : BitVec 32 := BitVec.ofNat 32 (i 2).val
  let c2_i32 : BitVec 32 := 2#32
  let v179 : BitVec 32 := Scalar.addi arg16 c2_i32
  let v180 : BitVec 32 := Scalar.subi arg2 v179
  let c0_i32_71 : BitVec 32 := 0#32
  let v181 : BitVec 32 := Scalar.maxsi v180 c0_i32_71
  let v197 : Index := Scalar.indexCast v181
  ![1, v197.toNat]

def k0_chk1 (i : grid0.Coords) (arg16 : BitVec 32) : Prop :=
  (∀ a, (k0_off6 i arg16) a + S1x1.size a ≤ S2x16.size a) ∧
  (∀ a, (k0_off7 i arg16) a + S1x1.size a ≤ S2x16.size a)
theorem k0_off6_inb : ∀ (i : grid0.Coords) (arg16 : BitVec 32) (k0_hw1 : k0_chk1 i arg16), ∀ a, (k0_off6 i arg16) a + S1x1.size a ≤ S2x16.size a := fun i arg16 k0_hw1 => k0_hw1.1
theorem k0_off7_inb : ∀ (i : grid0.Coords) (arg16 : BitVec 32) (k0_hw1 : k0_chk1 i arg16), ∀ a, (k0_off7 i arg16) a + S1x1.size a ≤ S2x16.size a := fun i arg16 k0_hw1 => k0_hw1.2

def k0_mult3 (i : grid0.Coords) (arg16 : BitVec 32) : BitVec 32 :=
  let arg2 : BitVec 32 := BitVec.ofNat 32 (i 2).val
  let v190 : BitVec 32 := Scalar.subi arg2 arg16
  let c1_i32_75 : BitVec 32 := 1#32
  let v191 : BitVec 32 := Scalar.subi v190 c1_i32_75
  let c512_i32_77 : BitVec 32 := 512#32
  let v199 : BitVec 32 := Scalar.muli v191 c512_i32_77
  v199

def k0_off8 (i : grid0.Coords) (arg16 : BitVec 32) (c1_i32_75 : BitVec 32) : Fin 3 → Nat :=
  let c0_78 : Index := 0#32
  let arg2 : BitVec 32 := BitVec.ofNat 32 (i 2).val
  let v190 : BitVec 32 := Scalar.subi arg2 arg16
  let v191 : BitVec 32 := Scalar.subi v190 c1_i32_75
  let c512_i32_77 : BitVec 32 := 512#32
  let v199 : BitVec 32 := Scalar.muli v191 c512_i32_77
  let v200 : BitVec 32 := v199
  let v201 : Index := Scalar.indexCast v200
  let c0_79 : Index := 0#32
  ![0, v201.toNat, 0]
def k0_mult4 (i : grid0.Coords) (arg16 : BitVec 32) : BitVec 32 :=
  let arg2 : BitVec 32 := BitVec.ofNat 32 (i 2).val
  let v226 : BitVec 32 := Scalar.subi arg2 arg16
  let c512_i32_95 : BitVec 32 := 512#32
  let v227 : BitVec 32 := Scalar.muli v226 c512_i32_95
  v227
def k0_off9 (i : grid0.Coords) (arg16 : BitVec 32) : Fin 3 → Nat :=
  let c0_96 : Index := 0#32
  let arg2 : BitVec 32 := BitVec.ofNat 32 (i 2).val
  let v226 : BitVec 32 := Scalar.subi arg2 arg16
  let c512_i32_95 : BitVec 32 := 512#32
  let v227 : BitVec 32 := Scalar.muli v226 c512_i32_95
  let v228 : BitVec 32 := v227
  let v229 : Index := Scalar.indexCast v228
  let c0_97 : Index := 0#32
  ![0, v229.toNat, 0]
def k0_mult5 (i : grid0.Coords) (arg16 : BitVec 32) : BitVec 32 :=
  let arg2 : BitVec 32 := BitVec.ofNat 32 (i 2).val
  let v251 : BitVec 32 := Scalar.subi arg2 arg16
  let c2_i32 : BitVec 32 := 2#32
  let v252 : BitVec 32 := Scalar.subi v251 c2_i32
  let c512_i32_113 : BitVec 32 := 512#32
  let v260 : BitVec 32 := Scalar.muli v252 c512_i32_113
  v260
def k0_mult6 (i : grid0.Coords) (arg16 : BitVec 32) : BitVec 32 :=
  let arg2 : BitVec 32 := BitVec.ofNat 32 (i 2).val
  let v287 : BitVec 32 := Scalar.subi arg2 arg16
  let c1_i32_131 : BitVec 32 := 1#32
  let v288 : BitVec 32 := Scalar.subi v287 c1_i32_131
  let c512_i32_132 : BitVec 32 := 512#32
  let v289 : BitVec 32 := Scalar.muli v288 c512_i32_132
  v289

def k0_chk2 (i : grid0.Coords) (arg16 : BitVec 32) : Prop :=
  (512 ∣ (k0_mult3 i arg16).toNat) ∧
  (∀ (r : Fin 2), ∀ a, (k0_off8 i arg16 (BitVec.ofNat 32 (1 + r.val))) a + S1x512x128.size a ≤ S1x8192x128.size a) ∧
  (512 ∣ (k0_mult4 i arg16).toNat) ∧
  (∀ a, (k0_off9 i arg16) a + S1x512x128.size a ≤ S1x8192x128.size a) ∧
  (512 ∣ (k0_mult5 i arg16).toNat) ∧
  (512 ∣ (k0_mult6 i arg16).toNat)
theorem k0_mult3_dvd : ∀ (i : grid0.Coords) (arg16 : BitVec 32) (k0_hw2 : k0_chk2 i arg16), 512 ∣ (k0_mult3 i arg16).toNat := fun i arg16 k0_hw2 => k0_hw2.1
theorem k0_off8_inb : ∀ (i : grid0.Coords) (arg16 : BitVec 32) (k0_hw2 : k0_chk2 i arg16), ∀ (r : Fin 2), ∀ a, (k0_off8 i arg16 (BitVec.ofNat 32 (1 + r.val))) a + S1x512x128.size a ≤ S1x8192x128.size a := fun i arg16 k0_hw2 r => k0_hw2.2.1 r
theorem k0_mult4_dvd : ∀ (i : grid0.Coords) (arg16 : BitVec 32) (k0_hw2 : k0_chk2 i arg16), 512 ∣ (k0_mult4 i arg16).toNat := fun i arg16 k0_hw2 => k0_hw2.2.2.1
theorem k0_off9_inb : ∀ (i : grid0.Coords) (arg16 : BitVec 32) (k0_hw2 : k0_chk2 i arg16), ∀ a, (k0_off9 i arg16) a + S1x512x128.size a ≤ S1x8192x128.size a := fun i arg16 k0_hw2 => k0_hw2.2.2.2.1
theorem k0_mult5_dvd : ∀ (i : grid0.Coords) (arg16 : BitVec 32) (k0_hw2 : k0_chk2 i arg16), 512 ∣ (k0_mult5 i arg16).toNat := fun i arg16 k0_hw2 => k0_hw2.2.2.2.2.1
theorem k0_mult6_dvd : ∀ (i : grid0.Coords) (arg16 : BitVec 32) (k0_hw2 : k0_chk2 i arg16), 512 ∣ (k0_mult6 i arg16).toNat := fun i arg16 k0_hw2 => k0_hw2.2.2.2.2.2

def k0_off10 (i : grid0.Coords) (v102_0 : BitVec 32) : Fin 2 → Nat :=
  let c0_49 : Index := 0#32
  let arg2 : BitVec 32 := BitVec.ofNat 32 (i 2).val
  let c1_i32 : BitVec 32 := 1#32
  let v103 : BitVec 32 := Scalar.addi v102_0 c1_i32
  let v115 : BitVec 32 := Scalar.subi arg2 v103
  let c0_i32_46 : BitVec 32 := 0#32
  let v116 : BitVec 32 := Scalar.maxsi v115 c0_i32_46
  let v123 : Index := Scalar.indexCast v116
  ![0, v123.toNat]

def k0_off11 (i : grid0.Coords) (v102_0 : BitVec 32) : Fin 2 → Nat :=
  let c1 : Index := 1#32
  let arg2 : BitVec 32 := BitVec.ofNat 32 (i 2).val
  let c1_i32 : BitVec 32 := 1#32
  let v103 : BitVec 32 := Scalar.addi v102_0 c1_i32
  let v115 : BitVec 32 := Scalar.subi arg2 v103
  let c0_i32_46 : BitVec 32 := 0#32
  let v116 : BitVec 32 := Scalar.maxsi v115 c0_i32_46
  let v132 : Index := Scalar.indexCast v116
  ![1, v132.toNat]

def k0_chk3 (i : grid0.Coords) (v102_0 : BitVec 32) : Prop :=
  (∀ a, (k0_off10 i v102_0) a + S1x1.size a ≤ S2x16.size a) ∧
  (∀ a, (k0_off11 i v102_0) a + S1x1.size a ≤ S2x16.size a)
theorem k0_off10_inb : ∀ (i : grid0.Coords) (v102_0 : BitVec 32) (k0_hw3 : k0_chk3 i v102_0), ∀ a, (k0_off10 i v102_0) a + S1x1.size a ≤ S2x16.size a := fun i v102_0 k0_hw3 => k0_hw3.1
theorem k0_off11_inb : ∀ (i : grid0.Coords) (v102_0 : BitVec 32) (k0_hw3 : k0_chk3 i v102_0), ∀ a, (k0_off11 i v102_0) a + S1x1.size a ≤ S2x16.size a := fun i v102_0 k0_hw3 => k0_hw3.2

def k0_mult7 (i : grid0.Coords) (v102_0 : BitVec 32) : BitVec 32 :=
  let arg2 : BitVec 32 := BitVec.ofNat 32 (i 2).val
  let v179 : BitVec 32 := Scalar.subi arg2 v102_0
  let c1_i32_71 : BitVec 32 := 1#32
  let v180 : BitVec 32 := Scalar.subi v179 c1_i32_71
  let c512_i32_73 : BitVec 32 := 512#32
  let v188 : BitVec 32 := Scalar.muli v180 c512_i32_73
  v188
def k0_cond2 (i : grid0.Coords) (v102_0 : BitVec 32) (v127 : BitVec 1) (v130 : BitVec 1) (v136 : BitVec 1) (v139 : BitVec 1) : BitVec 1 :=
  let c1_i32 : BitVec 32 := 1#32
  let v103 : BitVec 32 := Scalar.addi v102_0 c1_i32
  let arg2 : BitVec 32 := BitVec.ofNat 32 (i 2).val
  let v117 : BitVec 1 := Scalar.cmpi .sle v103 arg2
  let v131 : BitVec 1 := Scalar.andi v127 v130
  let v140 : BitVec 1 := Scalar.andi v136 v139
  let v141 : BitVec 1 := Scalar.andi v131 v140
  let v_true : BitVec 1 := 1#1
  let v142 : BitVec 1 := Scalar.xori v141 v_true
  let v143 : BitVec 1 := Scalar.andi v117 v142
  let v144 : BitVec 32 := Scalar.extui v143
  let c0_i32_54 : BitVec 32 := 0#32
  let v145 : BitVec 1 := Scalar.cmpi .ne v144 c0_i32_54
  v145

def k0_off12 (i : grid0.Coords) (v102_0 : BitVec 32) : Fin 3 → Nat :=
  let c0_74 : Index := 0#32
  let arg2 : BitVec 32 := BitVec.ofNat 32 (i 2).val
  let v179 : BitVec 32 := Scalar.subi arg2 v102_0
  let c1_i32_71 : BitVec 32 := 1#32
  let v180 : BitVec 32 := Scalar.subi v179 c1_i32_71
  let c512_i32_73 : BitVec 32 := 512#32
  let v188 : BitVec 32 := Scalar.muli v180 c512_i32_73
  let v189 : BitVec 32 := v188
  let v190 : Index := Scalar.indexCast v189
  let c0_75 : Index := 0#32
  ![0, v190.toNat, 0]
def k0_mult8 (i : grid0.Coords) (v102_0 : BitVec 32) : BitVec 32 :=
  let arg2 : BitVec 32 := BitVec.ofNat 32 (i 2).val
  let v215 : BitVec 32 := Scalar.subi arg2 v102_0
  let c512_i32_91 : BitVec 32 := 512#32
  let v216 : BitVec 32 := Scalar.muli v215 c512_i32_91
  v216
def k0_off13 (i : grid0.Coords) (v102_0 : BitVec 32) : Fin 3 → Nat :=
  let c0_92 : Index := 0#32
  let arg2 : BitVec 32 := BitVec.ofNat 32 (i 2).val
  let v215 : BitVec 32 := Scalar.subi arg2 v102_0
  let c512_i32_91 : BitVec 32 := 512#32
  let v216 : BitVec 32 := Scalar.muli v215 c512_i32_91
  let v217 : BitVec 32 := v216
  let v218 : Index := Scalar.indexCast v217
  let c0_93 : Index := 0#32
  ![0, v218.toNat, 0]
def k0_mult9 (i : grid0.Coords) (v102_0 : BitVec 32) : BitVec 32 :=
  let arg2 : BitVec 32 := BitVec.ofNat 32 (i 2).val
  let v240 : BitVec 32 := Scalar.subi arg2 v102_0
  let c1_i32_108 : BitVec 32 := 1#32
  let v241 : BitVec 32 := Scalar.subi v240 c1_i32_108
  let c512_i32_109 : BitVec 32 := 512#32
  let v242 : BitVec 32 := Scalar.muli v241 c512_i32_109
  v242
def k0_mult10 (i : grid0.Coords) (v102_0 : BitVec 32) : BitVec 32 :=
  let arg2 : BitVec 32 := BitVec.ofNat 32 (i 2).val
  let v179 : BitVec 32 := Scalar.subi arg2 v102_0
  let c512_i32_71 : BitVec 32 := 512#32
  let v180 : BitVec 32 := Scalar.muli v179 c512_i32_71
  v180
def k0_cond3 (i : grid0.Coords) (v102_0 : BitVec 32) (v127 : BitVec 1) (v130 : BitVec 1) (v136 : BitVec 1) (v139 : BitVec 1) : BitVec 1 :=
  let c1_i32 : BitVec 32 := 1#32
  let v103 : BitVec 32 := Scalar.addi v102_0 c1_i32
  let arg2 : BitVec 32 := BitVec.ofNat 32 (i 2).val
  let v117 : BitVec 1 := Scalar.cmpi .sle v103 arg2
  let v131 : BitVec 1 := Scalar.andi v127 v130
  let v140 : BitVec 1 := Scalar.andi v136 v139
  let v141 : BitVec 1 := Scalar.andi v131 v140
  let v_true : BitVec 1 := 1#1
  let v142 : BitVec 1 := Scalar.xori v141 v_true
  let v143 : BitVec 1 := Scalar.andi v117 v142
  let true_55 : BitVec 1 := 1#1
  let v146 : BitVec 1 := Scalar.xori v143 true_55
  let v147 : BitVec 32 := Scalar.extui v146
  let c0_i32_56 : BitVec 32 := 0#32
  let v148 : BitVec 1 := Scalar.cmpi .ne v147 c0_i32_56
  v148

def k0_off14 (i : grid0.Coords) (v102_0 : BitVec 32) : Fin 3 → Nat :=
  let c0_72 : Index := 0#32
  let arg2 : BitVec 32 := BitVec.ofNat 32 (i 2).val
  let v179 : BitVec 32 := Scalar.subi arg2 v102_0
  let c512_i32_71 : BitVec 32 := 512#32
  let v180 : BitVec 32 := Scalar.muli v179 c512_i32_71
  let v181 : BitVec 32 := v180
  let v182 : Index := Scalar.indexCast v181
  let c0_73 : Index := 0#32
  ![0, v182.toNat, 0]

def k0_chk4 (i : grid0.Coords) (v102_0 : BitVec 32) (v127 : BitVec 1) (v130 : BitVec 1) (v136 : BitVec 1) (v139 : BitVec 1) : Prop :=
  (∀ (k0_h2 : k0_cond2 i v102_0 v127 v130 v136 v139 = 1#1), 512 ∣ (k0_mult7 i v102_0).toNat) ∧
  (∀ (k0_h2 : k0_cond2 i v102_0 v127 v130 v136 v139 = 1#1), ∀ a, (k0_off12 i v102_0) a + S1x512x128.size a ≤ S1x8192x128.size a) ∧
  (∀ (k0_h2 : k0_cond2 i v102_0 v127 v130 v136 v139 = 1#1), 512 ∣ (k0_mult8 i v102_0).toNat) ∧
  (∀ (k0_h2 : k0_cond2 i v102_0 v127 v130 v136 v139 = 1#1), ∀ a, (k0_off13 i v102_0) a + S1x512x128.size a ≤ S1x8192x128.size a) ∧
  (∀ (k0_h2 : k0_cond2 i v102_0 v127 v130 v136 v139 = 1#1), 512 ∣ (k0_mult9 i v102_0).toNat) ∧
  (∀ (k0_h3 : k0_cond3 i v102_0 v127 v130 v136 v139 = 1#1), 512 ∣ (k0_mult10 i v102_0).toNat) ∧
  (∀ (k0_h3 : k0_cond3 i v102_0 v127 v130 v136 v139 = 1#1), ∀ a, (k0_off14 i v102_0) a + S1x512x128.size a ≤ S1x8192x128.size a)
theorem k0_mult7_dvd : ∀ (i : grid0.Coords) (v102_0 : BitVec 32) (v127 : BitVec 1) (v130 : BitVec 1) (v136 : BitVec 1) (v139 : BitVec 1) (k0_hw4 : k0_chk4 i v102_0 v127 v130 v136 v139), ∀ (k0_h2 : k0_cond2 i v102_0 v127 v130 v136 v139 = 1#1), 512 ∣ (k0_mult7 i v102_0).toNat := fun i v102_0 v127 v130 v136 v139 k0_hw4 k0_h2 => k0_hw4.1 k0_h2
theorem k0_off12_inb : ∀ (i : grid0.Coords) (v102_0 : BitVec 32) (v127 : BitVec 1) (v130 : BitVec 1) (v136 : BitVec 1) (v139 : BitVec 1) (k0_hw4 : k0_chk4 i v102_0 v127 v130 v136 v139), ∀ (k0_h2 : k0_cond2 i v102_0 v127 v130 v136 v139 = 1#1), ∀ a, (k0_off12 i v102_0) a + S1x512x128.size a ≤ S1x8192x128.size a := fun i v102_0 v127 v130 v136 v139 k0_hw4 k0_h2 => k0_hw4.2.1 k0_h2
theorem k0_mult8_dvd : ∀ (i : grid0.Coords) (v102_0 : BitVec 32) (v127 : BitVec 1) (v130 : BitVec 1) (v136 : BitVec 1) (v139 : BitVec 1) (k0_hw4 : k0_chk4 i v102_0 v127 v130 v136 v139), ∀ (k0_h2 : k0_cond2 i v102_0 v127 v130 v136 v139 = 1#1), 512 ∣ (k0_mult8 i v102_0).toNat := fun i v102_0 v127 v130 v136 v139 k0_hw4 k0_h2 => k0_hw4.2.2.1 k0_h2
theorem k0_off13_inb : ∀ (i : grid0.Coords) (v102_0 : BitVec 32) (v127 : BitVec 1) (v130 : BitVec 1) (v136 : BitVec 1) (v139 : BitVec 1) (k0_hw4 : k0_chk4 i v102_0 v127 v130 v136 v139), ∀ (k0_h2 : k0_cond2 i v102_0 v127 v130 v136 v139 = 1#1), ∀ a, (k0_off13 i v102_0) a + S1x512x128.size a ≤ S1x8192x128.size a := fun i v102_0 v127 v130 v136 v139 k0_hw4 k0_h2 => k0_hw4.2.2.2.1 k0_h2
theorem k0_mult9_dvd : ∀ (i : grid0.Coords) (v102_0 : BitVec 32) (v127 : BitVec 1) (v130 : BitVec 1) (v136 : BitVec 1) (v139 : BitVec 1) (k0_hw4 : k0_chk4 i v102_0 v127 v130 v136 v139), ∀ (k0_h2 : k0_cond2 i v102_0 v127 v130 v136 v139 = 1#1), 512 ∣ (k0_mult9 i v102_0).toNat := fun i v102_0 v127 v130 v136 v139 k0_hw4 k0_h2 => k0_hw4.2.2.2.2.1 k0_h2
theorem k0_mult10_dvd : ∀ (i : grid0.Coords) (v102_0 : BitVec 32) (v127 : BitVec 1) (v130 : BitVec 1) (v136 : BitVec 1) (v139 : BitVec 1) (k0_hw4 : k0_chk4 i v102_0 v127 v130 v136 v139), ∀ (k0_h3 : k0_cond3 i v102_0 v127 v130 v136 v139 = 1#1), 512 ∣ (k0_mult10 i v102_0).toNat := fun i v102_0 v127 v130 v136 v139 k0_hw4 k0_h3 => k0_hw4.2.2.2.2.2.1 k0_h3
theorem k0_off14_inb : ∀ (i : grid0.Coords) (v102_0 : BitVec 32) (v127 : BitVec 1) (v130 : BitVec 1) (v136 : BitVec 1) (v139 : BitVec 1) (k0_hw4 : k0_chk4 i v102_0 v127 v130 v136 v139), ∀ (k0_h3 : k0_cond3 i v102_0 v127 v130 v136 v139 = 1#1), ∀ a, (k0_off14 i v102_0) a + S1x512x128.size a ≤ S1x8192x128.size a := fun i v102_0 v127 v130 v136 v139 k0_hw4 k0_h3 => k0_hw4.2.2.2.2.2.2 k0_h3

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .smem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "neg_big" => some ⊥
  | "q_scale" => some (((1 / 8) * (Real.log 2)⁻¹ : ℝ) : EReal)
  | "zero_weight" => some ⊤
  | _ => none
-- ==== ReferenceIdeal.lean ====
abbrev S4x8192x3072 : Shape := ⟨3, ![4, 8192, 3072]⟩
abbrev S1x1 : Shape := ⟨2, ![1, 1]⟩
abbrev S1x128 : Shape := ⟨2, ![1, 128]⟩
abbrev S4 : Shape := ⟨1, ![4]⟩
abbrev S4x8192x512 : Shape := ⟨3, ![4, 8192, 512]⟩
abbrev S4x8192x4x2x64 : Shape := ⟨5, ![4, 8192, 4, 2, 64]⟩
abbrev S4x8192x4x128 : Shape := ⟨4, ![4, 8192, 4, 128]⟩
abbrev S4x4x2x8192x8192 : Shape := ⟨5, ![4, 4, 2, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x1x1x1 : Shape := ⟨4, ![4, 1, 1, 1]⟩
abbrev S1x1x8192x8192 : Shape := ⟨4, ![1, 1, 8192, 8192]⟩
abbrev S4x1x8192x8192 : Shape := ⟨4, ![4, 1, 8192, 8192]⟩
abbrev S1x4x1x8192x8192 : Shape := ⟨5, ![1, 4, 1, 8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S128 : Shape := ⟨1, ![128]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x3072, .f32⟩
  | .hbm, ⟨1, _⟩ => ⟨S1x1, .f32⟩
  | .hbm, ⟨2, _⟩ => ⟨S1x128, .f32⟩
  | .hbm, ⟨3, _⟩ => ⟨S4, .f32⟩
  | .hbm, ⟨4, _⟩ => ⟨S4x8192x512, .f32⟩
  | .hbm, ⟨5, _⟩ => ⟨S4x8192x4x2x64, .f32⟩
  | .hbm, ⟨6, _⟩ => ⟨S4x8192x512, .f32⟩
  | .hbm, ⟨7, _⟩ => ⟨S4x8192x4x2x64, .f32⟩
  | .hbm, ⟨8, _⟩ => ⟨S4x8192x512, .f32⟩
  | .hbm, ⟨9, _⟩ => ⟨S4x8192x4x128, .f32⟩
  | .hbm, ⟨10, _⟩ => ⟨S4x4x2x8192x8192, .f32⟩
  | .hbm, ⟨11, _⟩ => ⟨S_, .f32⟩
  | .hbm, ⟨12, _⟩ => ⟨S4x4x2x8192x8192, .f32⟩
  | .hbm, ⟨13, _⟩ => ⟨S4x4x2x8192x8192, .f32⟩
  | .hbm, ⟨14, _⟩ => ⟨S8192, .i32⟩
  | .hbm, ⟨15, _⟩ => ⟨S8192x1, .i32⟩
  | .hbm, ⟨16, _⟩ => ⟨S1x8192, .i32⟩
  | .hbm, ⟨17, _⟩ => ⟨S8192x8192, .i32⟩
  | .hbm, ⟨18, _⟩ => ⟨S8192x8192, .i32⟩
  | .hbm, ⟨19, _⟩ => ⟨S8192x8192, .i32⟩
  | .hbm, ⟨20, _⟩ => ⟨S8192x8192, .f32⟩
  | .hbm, ⟨21, _⟩ => ⟨S4x1x1x1, .f32⟩
  | .hbm, ⟨22, _⟩ => ⟨S4x1x1x1, .f32⟩
  | .hbm, ⟨23, _⟩ => ⟨S1x1x8192x8192, .f32⟩
  | .hbm, ⟨24, _⟩ => ⟨S4x1x8192x8192, .f32⟩
  | .hbm, ⟨25, _⟩ => ⟨S4x1x8192x8192, .f32⟩
  | .hbm, ⟨26, _⟩ => ⟨S4x1x8192x8192, .f32⟩
  | .hbm, ⟨27, _⟩ => ⟨S_, .f32⟩
  | .hbm, ⟨28, _⟩ => ⟨S8192x8192, .f32⟩
  | .hbm, ⟨29, _⟩ => ⟨S8192x8192, .i1⟩
  | .hbm, ⟨30, _⟩ => ⟨S1x4x1x8192x8192, .f32⟩
  | .hbm, ⟨31, _⟩ => ⟨S4x4x2x8192x8192, .f32⟩
  | .hbm, ⟨32, _⟩ => ⟨S4x4x2x8192x8192, .f32⟩
  | .hbm, ⟨33, _⟩ => ⟨S_, .f32⟩
  | .hbm, ⟨34, _⟩ => ⟨S_, .f32⟩
  | .hbm, ⟨35, _⟩ => ⟨S4x4x2x8192x8192, .i1⟩
  | .hbm, ⟨36, _⟩ => ⟨S4x4x2x8192x8192, .f32⟩
  | .hbm, ⟨37, _⟩ => ⟨S4x4x2x8192x8192, .f32⟩
  | .hbm, ⟨38, _⟩ => ⟨S_, .f32⟩
  | .hbm, ⟨39, _⟩ => ⟨S4x4x2x8192, .f32⟩
  | .hbm, ⟨40, _⟩ => ⟨S_, .f32⟩
  | .hbm, ⟨41, _⟩ => ⟨S4x4x2x8192, .f32⟩
  | .hbm, ⟨42, _⟩ => ⟨S4x4x2x8192, .f32⟩
  | .hbm, ⟨43, _⟩ => ⟨S4x4x2x8192x1, .f32⟩
  | .hbm, ⟨44, _⟩ => ⟨S4x4x2x8192x8192, .f32⟩
  | .hbm, ⟨45, _⟩ => ⟨S4x4x2x8192x8192, .f32⟩
  | .hbm, ⟨46, _⟩ => ⟨S4x4x2x8192x8192, .f32⟩
  | .hbm, ⟨47, _⟩ => ⟨S_, .f32⟩
  | .hbm, ⟨48, _⟩ => ⟨S4x4x2x8192, .f32⟩
  | .hbm, ⟨49, _⟩ => ⟨S4x4x2x8192x1, .f32⟩
  | .hbm, ⟨50, _⟩ => ⟨S4x4x2x8192x8192, .f32⟩
  | .hbm, ⟨51, _⟩ => ⟨S4x4x2x8192x8192, .f32⟩
  | .hbm, ⟨52, _⟩ => ⟨S4x4x1x8192x8192, .f32⟩
  | .hbm, ⟨53, _⟩ => ⟨S4x4x8192x8192, .f32⟩
  | .hbm, ⟨54, _⟩ => ⟨S_, .f32⟩
  | .hbm, ⟨55, _⟩ => ⟨S4x4x1x8192x8192, .f32⟩
  | .hbm, ⟨56, _⟩ => ⟨S4x4x8192x8192, .f32⟩
  | .hbm, ⟨57, _⟩ => ⟨S4x4x8192x8192, .f32⟩
  | .hbm, ⟨58, _⟩ => ⟨S4x4x8192x8192, .f32⟩
  | .hbm, ⟨59, _⟩ => ⟨S4x4x8192x8192, .f32⟩
  | .hbm, ⟨60, _⟩ => ⟨S4x4x128x8192, .f32⟩
  | .hbm, ⟨61, _⟩ => ⟨S4x8192x4x128, .f32⟩
  | .hbm, ⟨62, _⟩ => ⟨S4x8192x4x128, .f32⟩
  | .hbm, ⟨63, _⟩ => ⟨S_, .f32⟩
  | .hbm, ⟨64, _⟩ => ⟨S4x8192x4, .f32⟩
  | .hbm, ⟨65, _⟩ => ⟨S4x8192x4x1, .f32⟩
  | .hbm, ⟨66, _⟩ => ⟨S_, .f32⟩
  | .hbm, ⟨67, _⟩ => ⟨S4x8192x4x1, .f32⟩
  | .hbm, ⟨68, _⟩ => ⟨S4x8192x4x1, .f32⟩
  | .hbm, ⟨69, _⟩ => ⟨S_, .f32⟩
  | .hbm, ⟨70, _⟩ => ⟨S4x8192x4x1, .f32⟩
  | .hbm, ⟨71, _⟩ => ⟨S4x8192x4x1, .f32⟩
  | .hbm, ⟨72, _⟩ => ⟨S4x8192x4x1, .f32⟩
  | .hbm, ⟨73, _⟩ => ⟨S4x8192x4x128, .f32⟩
  | .hbm, ⟨74, _⟩ => ⟨S4x8192x4x128, .f32⟩
  | .hbm, ⟨75, _⟩ => ⟨S128, .f32⟩
  | .hbm, ⟨76, _⟩ => ⟨S1x1x1x128, .f32⟩
  | .hbm, ⟨77, _⟩ => ⟨S4x8192x4x128, .f32⟩
  | .hbm, ⟨78, _⟩ => ⟨S4x8192x4x128, .f32⟩
  | .hbm, ⟨79, _⟩ => ⟨S_, .f32⟩
  | .hbm, ⟨80, _⟩ => ⟨S4x8192x4x128, .f32⟩
  | .hbm, ⟨81, _⟩ => ⟨S4x8192x4x128, .f32⟩
  | .hbm, ⟨82, _⟩ => ⟨S4x8192x512, .f32⟩
  | _, _ => ⟨S4x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S1x1024 : Shape := ⟨2, ![1, 1024]⟩
abbrev S1x1024x6144 : Shape := ⟨3, ![1, 1024, 6144]⟩
abbrev S1x2048 : Shape := ⟨2, ![1, 2048]⟩
abbrev S1x512x1024 : Shape := ⟨3, ![1, 512, 1024]⟩
abbrev S1x1024x1024 : Shape := ⟨3, ![1, 1024, 1024]⟩
abbrev S1024x6144 : Shape := ⟨2, ![1024, 6144]⟩
abbrev S1024x512 : Shape := ⟨2, ![1024, 512]⟩
abbrev S1024x1024 : Shape := ⟨2, ![1024, 1024]⟩
abbrev S1024x3072 : Shape := ⟨2, ![1024, 3072]⟩
abbrev S32768x1024 : Shape := ⟨2, ![32768, 1024]⟩
abbrev S32768x512 : Shape := ⟨2, ![32768, 512]⟩
abbrev S1024 : Shape := ⟨1, ![1024]⟩
abbrev S2048 : Shape := ⟨1, ![2048]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x3072 : Shape := ⟨2, ![512, 3072]⟩
abbrev S512x2048 : Shape := ⟨2, ![512, 2048]⟩

abbrev nBuf : Space → Nat
  | .hbm => 39
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1x1024, .f32⟩
  | .hbm, ⟨4, _⟩ => ⟨S1x1024x6144, .f32⟩
  | .hbm, ⟨5, _⟩ => ⟨S1x2048, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1024x6144, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x1024, .f32⟩
  | .hbm, ⟨20, _⟩ => ⟨S1024x1024, .f32⟩
  | .hbm, ⟨21, _⟩ => ⟨S1024x3072, .f32⟩
  | .hbm, ⟨22, _⟩ => ⟨S1024x3072, .bf16⟩
  | .hbm, ⟨23, _⟩ => ⟨S32768x1024, .f32⟩
  | .hbm, ⟨24, _⟩ => ⟨S32768x512, .f32⟩
  | .hbm, ⟨25, _⟩ => ⟨S32768x512, .f32⟩
  | .hbm, ⟨26, _⟩ => ⟨S1024, .f32⟩
  | .hbm, ⟨27, _⟩ => ⟨S1x1024, .f32⟩
  | .hbm, ⟨28, _⟩ => ⟨S2048, .f32⟩
  | .hbm, ⟨29, _⟩ => ⟨S1x2048, .f32⟩
  | .hbm, ⟨30, _⟩ => ⟨S512x1024, .f32⟩
  | .hbm, ⟨31, _⟩ => ⟨S512x1024, .bf16⟩
  | .hbm, ⟨32, _⟩ => ⟨S512x1024, .f32⟩
  | .hbm, ⟨33, _⟩ => ⟨S512x1024, .bf16⟩
  | .hbm, ⟨34, _⟩ => ⟨S1024x1024, .f32⟩
  | .hbm, ⟨35, _⟩ => ⟨S1024x1024, .bf16⟩
  | .hbm, ⟨36, _⟩ => ⟨S1024, .f32⟩
  | .hbm, ⟨37, _⟩ => ⟨S1x1024, .f32⟩
  | .hbm, ⟨38, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024, .f32⟩
  | .local _ .vmem, ⟨7, _⟩ => ⟨S1024x3072, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4x8192x1024 : Shape := ⟨3, ![4, 8192, 1024]⟩
abbrev S4x8192x512 : Shape := ⟨3, ![4, 8192, 512]⟩
abbrev S1x1024 : Shape := ⟨2, ![1, 1024]⟩
abbrev S1x1024x6144 : Shape := ⟨3, ![1, 1024, 6144]⟩
abbrev S1x2048 : Shape := ⟨2, ![1, 2048]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x6144 : Shape := ⟨2, ![1024, 6144]⟩
abbrev S4x8192x6144 : Shape := ⟨3, ![4, 8192, 6144]⟩
abbrev S512x1024 : Shape := ⟨2, ![512, 1024]⟩
abbrev S4x8192x2048 : Shape := ⟨3, ![4, 8192, 2048]⟩
abbrev S2048 : Shape := ⟨1, ![2048]⟩
abbrev S1x1x2048 : Shape := ⟨3, ![1, 1, 2048]⟩
abbrev S1024x1024 : Shape := ⟨2, ![1024, 1024]⟩
abbrev S32768x1024 : Shape := ⟨2, ![32768, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1x1024, .f32⟩
  | .hbm, ⟨4, _⟩ => ⟨S1x1024x6144, .f32⟩
  | .hbm, ⟨5, _⟩ => ⟨S1x2048, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S1024x6144, .f32⟩
  | .hbm, ⟨28, _⟩ => ⟨S4x8192x6144, .f32⟩
  | .hbm, ⟨29, _⟩ => ⟨S4x8192x512, .f32⟩
  | .hbm, ⟨30, _⟩ => ⟨S4x8192x512, .f32⟩
  | .hbm, ⟨31, _⟩ => ⟨S4x8192x512, .f32⟩
  | .hbm, ⟨32, _⟩ => ⟨S4x8192x512, .f32⟩
  | .hbm, ⟨33, _⟩ => ⟨S_, .f32⟩
  | .hbm, ⟨34, _⟩ => ⟨S4x8192x512, .f32⟩
  | .hbm, ⟨35, _⟩ => ⟨S4x8192x512, .f32⟩
  | .hbm, ⟨36, _⟩ => ⟨S_, .f32⟩
  | .hbm, ⟨37, _⟩ => ⟨S4x8192x512, .f32⟩
  | .hbm, ⟨38, _⟩ => ⟨S4x8192x512, .f32⟩
  | .hbm, ⟨39, _⟩ => ⟨S4x8192x512, .f32⟩
  | .hbm, ⟨40, _⟩ => ⟨S4x8192x512, .f32⟩
  | .hbm, ⟨41, _⟩ => ⟨S512x1024, .f32⟩
  | .hbm, ⟨42, _⟩ => ⟨S4x8192x1024, .f32⟩
  | .hbm, ⟨43, _⟩ => ⟨S4x8192x512, .f32⟩
  | .hbm, ⟨44, _⟩ => ⟨S4x8192x512, .f32⟩
  | .hbm, ⟨45, _⟩ => ⟨S_, .f32⟩
  | .hbm, ⟨46, _⟩ => ⟨S4x8192x512, .f32⟩
  | .hbm, ⟨47, _⟩ => ⟨S4x8192x512, .f32⟩
  | .hbm, ⟨48, _⟩ => ⟨S_, .f32⟩
  | .hbm, ⟨49, _⟩ => ⟨S4x8192x512, .f32⟩
  | .hbm, ⟨50, _⟩ => ⟨S4x8192x512, .f32⟩
  | .hbm, ⟨51, _⟩ => ⟨S4x8192x512, .f32⟩
  | .hbm, ⟨52, _⟩ => ⟨S4x8192x512, .f32⟩
  | .hbm, ⟨53, _⟩ => ⟨S512x1024, .f32⟩
  | .hbm, ⟨54, _⟩ => ⟨S4x8192x1024, .f32⟩
  | .hbm, ⟨55, _⟩ => ⟨S4x8192x2048, .f32⟩
  | .hbm, ⟨56, _⟩ => ⟨S2048, .f32⟩
  | .hbm, ⟨57, _⟩ => ⟨S1x1x2048, .f32⟩
  | .hbm, ⟨58, _⟩ => ⟨S4x8192x2048, .f32⟩
  | .hbm, ⟨59, _⟩ => ⟨S4x8192x2048, .f32⟩
  | .hbm, ⟨60, _⟩ => ⟨S4x8192x2048, .f32⟩
  | .hbm, ⟨61, _⟩ => ⟨S4x8192x2048, .f32⟩
  | .hbm, ⟨62, _⟩ => ⟨S_, .f32⟩
  | .hbm, ⟨63, _⟩ => ⟨S4x8192x2048, .f32⟩
  | .hbm, ⟨64, _⟩ => ⟨S4x8192x2048, .f32⟩
  | .hbm, ⟨65, _⟩ => ⟨S_, .f32⟩
  | .hbm, ⟨66, _⟩ => ⟨S4x8192x2048, .f32⟩
  | .hbm, ⟨67, _⟩ => ⟨S4x8192x2048, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S4x8192x1024, .f32⟩
  | .hbm, ⟨73, _⟩ => ⟨S1024x1024, .f32⟩
  | .hbm, ⟨74, _⟩ => ⟨S4x8192x1024, .f32⟩
  | .hbm, ⟨75, _⟩ => ⟨S1024, .f32⟩
  | .hbm, ⟨76, _⟩ => ⟨S4x8192x1024, .f32⟩
  | .hbm, ⟨77, _⟩ => ⟨S_, .f32⟩
  | .hbm, ⟨78, _⟩ => ⟨S4x8192, .f32⟩
  | .hbm, ⟨79, _⟩ => ⟨S4x8192x1, .f32⟩
  | .hbm, ⟨80, _⟩ => ⟨S_, .f32⟩
  | .hbm, ⟨81, _⟩ => ⟨S4x8192x1, .f32⟩
  | .hbm, ⟨82, _⟩ => ⟨S4x8192x1, .f32⟩
  | .hbm, ⟨83, _⟩ => ⟨S_, .f32⟩
  | .hbm, ⟨84, _⟩ => ⟨S4x8192x1, .f32⟩
  | .hbm, ⟨85, _⟩ => ⟨S4x8192x1, .f32⟩
  | .hbm, ⟨86, _⟩ => ⟨S4x8192x1, .f32⟩
  | .hbm, ⟨87, _⟩ => ⟨S4x8192x1024, .f32⟩
  | .hbm, ⟨88, _⟩ => ⟨S4x8192x1024, .f32⟩
  | .hbm, ⟨89, _⟩ => ⟨S1x1x1024, .f32⟩
  | .hbm, ⟨90, _⟩ => ⟨S4x8192x1024, .f32⟩
  | .hbm, ⟨91, _⟩ => ⟨S4x8192x1024, .f32⟩
  | .hbm, ⟨92, _⟩ => ⟨S4x8192x1024, .f32⟩
  | .hbm, ⟨93, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_2 : Ref sig .tc := ⟨.hbm, 62, rfl⟩
abbrev main_v33 : Ref sig .tc := ⟨.hbm, 63, rfl⟩
abbrev main_v34 : Ref sig .tc := ⟨.hbm, 64, rfl⟩
abbrev main_cst_3 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_4 : Ref sig .tc := ⟨.hbm, 77, rfl⟩
abbrev main_v46 : Ref sig .tc := ⟨.hbm, 78, rfl⟩
abbrev main_v47 : Ref sig .tc := ⟨.hbm, 79, rfl⟩
abbrev main_cst_5 : Ref sig .tc := ⟨.hbm, 80, rfl⟩
abbrev main_v48 : Ref sig .tc := ⟨.hbm, 81, rfl⟩
abbrev main_v49 : Ref sig .tc := ⟨.hbm, 82, rfl⟩
abbrev main_cst_6 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩

abbrev nD : Nat := 1
abbrev τ : Topo := Topo.v7x

variable {F : FTy → Type} [FloatOps F]
-- ==== Kernel3.lean ====
abbrev S4x8192x1024 : Shape := ⟨3, ![4, 8192, 1024]⟩
abbrev S1x1024 : Shape := ⟨2, ![1, 1024]⟩
abbrev S1x1024x6144 : Shape := ⟨3, ![1, 1024, 6144]⟩
abbrev S1x1 : Shape := ⟨2, ![1, 1]⟩
abbrev S1x512 : Shape := ⟨2, ![1, 512]⟩
abbrev S_ : Shape := ⟨0, ![]⟩
abbrev S1x3072 : Shape := ⟨2, ![1, 3072]⟩
abbrev S1024x6144 : Shape := ⟨2, ![1024, 6144]⟩
abbrev S1024x512 : Shape := ⟨2, ![1024, 512]⟩
abbrev S1024x1024 : Shape := ⟨2, ![1024, 1024]⟩
abbrev S1024x3072 : Shape := ⟨2, ![1024, 3072]⟩
abbrev S32768x1024 : Shape := ⟨2, ![32768, 1024]⟩
abbrev S1024 : Shape := ⟨1, ![1024]⟩
abbrev S32768x3072 : Shape := ⟨2, ![32768, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 25
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x6144, .f32⟩
  | .hbm, ⟨3, _⟩ => ⟨S1x1, .f32⟩
  | .hbm, ⟨4, _⟩ => ⟨S1x512, .f32⟩
  | .hbm, ⟨5, _⟩ => ⟨S_, .f32⟩
  | .hbm, ⟨6, _⟩ => ⟨S1x512, .f32⟩
  | .hbm, ⟨7, _⟩ => ⟨S1x3072, .f32⟩
  | .hbm, ⟨8, _⟩ => ⟨S1024x6144, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x1024, .f32⟩
  | .hbm, ⟨18, _⟩ => ⟨S1024x1024, .f32⟩
  | .hbm, ⟨19, _⟩ => ⟨S1024x3072, .f32⟩
  | .hbm, ⟨20, _⟩ => ⟨S1024x3072, .bf16⟩
  | .hbm, ⟨21, _⟩ => ⟨S32768x1024, .f32⟩
  | .hbm, ⟨22, _⟩ => ⟨S1024, .f32⟩
  | .hbm, ⟨23, _⟩ => ⟨S1x1024, .f32⟩
  | .hbm, ⟨24, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x3072, .f32⟩
  | .local _ .vmem, ⟨5, _⟩ => ⟨S512x3072, .bf16⟩
  | .local _ .vmem, ⟨6, _⟩ => ⟨S512x3072, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x8192x1024 : Shape := ⟨3, ![4, 8192, 1024]⟩
abbrev S1x1024 : Shape := ⟨2, ![1, 1024]⟩
abbrev S1x1024x6144 : Shape := ⟨3, ![1, 1024, 6144]⟩
abbrev S1x1 : Shape := ⟨2, ![1, 1]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x6144 : Shape := ⟨2, ![1024, 6144]⟩
abbrev S4x8192x6144 : Shape := ⟨3, ![4, 8192, 6144]⟩
abbrev S4x8192x512 : Shape := ⟨3, ![4, 8192, 512]⟩
abbrev S4x8192x3072 : Shape := ⟨3, ![4, 8192, 3072]⟩
abbrev S32768x3072 : Shape := ⟨2, ![32768, 3072]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x6144, .f32⟩
  | .hbm, ⟨3, _⟩ => ⟨S1x1, .f32⟩
  | .hbm, ⟨4, _⟩ => ⟨S1024, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S1024x6144, .f32⟩
  | .hbm, ⟨22, _⟩ => ⟨S4x8192x6144, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x512, .f32⟩
  | .hbm, ⟨28, _⟩ => ⟨S4x8192x512, .f32⟩
  | .hbm, ⟨29, _⟩ => ⟨S4x8192x512, .f32⟩
  | .hbm, ⟨30, _⟩ => ⟨S_, .f32⟩
  | .hbm, ⟨31, _⟩ => ⟨S4x8192x512, .f32⟩
  | .hbm, ⟨32, _⟩ => ⟨S4x8192x512, .f32⟩
  | .hbm, ⟨33, _⟩ => ⟨S_, .f32⟩
  | .hbm, ⟨34, _⟩ => ⟨S4x8192x512, .f32⟩
  | .hbm, ⟨35, _⟩ => ⟨S4x8192x512, .f32⟩
  | .hbm, ⟨36, _⟩ => ⟨S4x8192x3072, .f32⟩
  | .hbm, ⟨37, _⟩ => ⟨S32768x3072, .f32⟩
  | .hbm, ⟨38, _⟩ => ⟨S32768x3072, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel4.lean ====
abbrev S1x64 : Shape := ⟨2, ![1, 64]⟩
abbrev S64 : Shape := ⟨1, ![64]⟩
abbrev S1x1 : Shape := ⟨2, ![1, 1]⟩
abbrev S1 : Shape := ⟨1, ![1]⟩

abbrev nBuf : Space → Nat
  | .hbm => 13
  | .vmem => 5
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S1x1, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x1, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference4Ideal.lean ====
abbrev S1x64 : Shape := ⟨2, ![1, 64]⟩
abbrev S64 : Shape := ⟨1, ![64]⟩
abbrev S_ : Shape := ⟨0, ![]⟩
abbrev S1x1 : Shape := ⟨2, ![1, 1]⟩

abbrev nBuf : Space → Nat
  | .hbm => 20
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x1, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.KI.Words.lean ====
/- The words of the attention kernel's walk over its key tiles: at query tile `qi` and after `j` tiles, `j ≤ 15`, every
   offset computed from the counter lies inside its array, as long as the tile it names exists. -/
module

public import proofs.«01_k».proof.Proof.Gen.KernelIdeal.Skeleton
public import Idealize.ShloMosaic.Lib.Tactic

@[expose] public section

noncomputable section

namespace Cert.Proof.KI

open Cert.KernelIdeal Cert.KernelIdeal.Gen
open Idealize.ShloMosaic Idealize.ShloMosaic.TcCoe

/-- The counter of the walk after `j` tiles. -/
abbrev ctr (j : ℕ) : BitVec 32 := BitVec.ofNat 32 j

/-- The point of query tile `q`, in the first sequence and head: the words of the walk know the tile only. -/
abbrev atTile (q : Fin 16) : grid0.Coords := fun a => match a with
  | 0 => (0 : Fin 4)
  | 1 => (0 : Fin 4)
  | 2 => q

theorem chk1_all : ∀ q j : Fin 16, k0_chk1 (atTile q) (ctr j.val) := by decide
theorem chk2_all : ∀ q j : Fin 16, j.val + 2 ≤ q.val → k0_chk2 (atTile q) (ctr j.val) := by decide
theorem chk3_all : ∀ q j : Fin 16, k0_chk3 (atTile q) (ctr j.val) := by decide
theorem next_all : ∀ q j : Fin 16, j.val + 1 ≤ q.val →
    (512 ∣ (k0_mult7 (atTile q) (ctr j.val)).toNat) ∧
    (∀ a, (k0_off12 (atTile q) (ctr j.val)) a + S1x512x128.size a ≤ S1x8192x128.size a) ∧
    (512 ∣ (k0_mult8 (atTile q) (ctr j.val)).toNat) ∧
    (∀ a, (k0_off13 (atTile q) (ctr j.val)) a + S1x512x128.size a ≤ S1x8192x128.size a) ∧
    (512 ∣ (k0_mult9 (atTile q) (ctr j.val)).toNat) := by decide
theorem last_all : ∀ q j : Fin 16, j.val ≤ q.val →
    (512 ∣ (k0_mult10 (atTile q) (ctr j.val)).toNat) ∧
    (∀ a, (k0_off14 (atTile q) (ctr j.val)) a + S1x512x128.size a ≤ S1x8192x128.size a) := by decide
theorem two_more_all : ∀ q j : Fin 16,
    (Scalar.cmpi .sle (Scalar.addi (ctr j.val) 2#32) (BitVec.ofNat 32 q.val) = 1#1 ↔ j.val + 2 ≤ q.val) := by decide
theorem one_more_all : ∀ q j : Fin 16,
    (Scalar.cmpi .sle (Scalar.addi (ctr j.val) 1#32) (BitVec.ofNat 32 q.val) = 1#1 ↔ j.val + 1 ≤ q.val) := by decide
theorem ctr_two_all : ∀ j : Fin 16, Scalar.addi (ctr j.val) 2#32 = ctr (j.val + 2) := by decide

/-- Of two bits, the conjunction is set when both are. -/
theorem and_bits (x y : BitVec 1) : Scalar.andi x y = 1#1 ↔ x = 1#1 ∧ y = 1#1 := by
  revert x y; decide
/-- A bit widened is not zero when the bit is set. -/
theorem widened (x : BitVec 1) : Scalar.cmpi .ne (Scalar.extui x : BitVec 32) 0#32 = 1#1 ↔ x = 1#1 := by
  revert x; decide
/-- A bit and its complement. -/
theorem flipped (x : BitVec 1) : Scalar.xori x 1#1 = 1#1 ↔ ¬ x = 1#1 := by
  revert x; decide

theorem off8_all : ∀ q j : Fin 16, j.val + 2 ≤ q.val →
    k0_off8 (atTile q) (ctr j.val) 1#32 = ![0, (q.val - (j.val + 1)) * 512, 0]
      ∧ k0_off8 (atTile q) (ctr j.val) 2#32 = ![0, (q.val - (j.val + 2)) * 512, 0]
      ∧ k0_off9 (atTile q) (ctr j.val) = ![0, (q.val - j.val) * 512, 0] := by decide
theorem off12_all : ∀ q j : Fin 16, j.val + 1 ≤ q.val →
    k0_off12 (atTile q) (ctr j.val) = ![0, (q.val - (j.val + 1)) * 512, 0]
      ∧ k0_off13 (atTile q) (ctr j.val) = ![0, (q.val - j.val) * 512, 0] := by decide
theorem off14_all : ∀ q j : Fin 16, j.val ≤ q.val →
    k0_off14 (atTile q) (ctr j.val) = ![0, (q.val - j.val) * 512, 0] := by decide
theorem off5_all : ∀ q : Fin 16, k0_off5 (atTile q) = ![0, q.val * 512, 0] := by decide

section Point

variable (i : grid0.Coords) (j : ℕ)

theorem chk1_of (hj : j ≤ (i 2).val) : k0_chk1 i (ctr j) :=
  chk1_all (i 2) ⟨j, lt_of_le_of_lt hj (i 2).isLt⟩
theorem chk2_of (hj : j + 2 ≤ (i 2).val) : k0_chk2 i (ctr j) :=
  chk2_all (i 2) ⟨j, lt_of_le_of_lt (by omega) (i 2).isLt⟩ hj
theorem chk3_of (hj : j ≤ (i 2).val) : k0_chk3 i (ctr j) :=
  chk3_all (i 2) ⟨j, lt_of_le_of_lt hj (i 2).isLt⟩
theorem two_more (hj : j ≤ (i 2).val) :
    Scalar.cmpi .sle (Scalar.addi (ctr j) 2#32) (BitVec.ofNat 32 (i 2).val) = 1#1 ↔ j + 2 ≤ (i 2).val :=
  two_more_all (i 2) ⟨j, lt_of_le_of_lt hj (i 2).isLt⟩
theorem one_more (hj : j ≤ (i 2).val) :
    Scalar.cmpi .sle (Scalar.addi (ctr j) 1#32) (BitVec.ofNat 32 (i 2).val) = 1#1 ↔ j + 1 ≤ (i 2).val :=
  one_more_all (i 2) ⟨j, lt_of_le_of_lt hj (i 2).isLt⟩
theorem ctr_two (hj : j ≤ (i 2).val) : Scalar.addi (ctr j) 2#32 = ctr (j + 2) :=
  ctr_two_all ⟨j, lt_of_le_of_lt hj (i 2).isLt⟩

/-- The second of the last two tiles is taken when it exists and its bound is not met. -/
theorem cond2_iff (hj : j ≤ (i 2).val) (a b d e : BitVec 1) : k0_cond2 i (ctr j) a b d e = 1#1 ↔
    j + 1 ≤ (i 2).val ∧ ¬ Scalar.andi (Scalar.andi a b) (Scalar.andi d e) = 1#1 := by
  unfold k0_cond2
  simp only [widened, and_bits _ (Scalar.xori _ _), flipped, one_more i j hj]
/-- Otherwise the walk ends with the tile it is at. -/
theorem cond3_iff (hj : j ≤ (i 2).val) (a b d e : BitVec 1) : k0_cond3 i (ctr j) a b d e = 1#1 ↔
    ¬ k0_cond2 i (ctr j) a b d e = 1#1 := by
  unfold k0_cond2 k0_cond3
  simp only [widened, flipped]
theorem chk4_of (hj : j ≤ (i 2).val) (a b d e : BitVec 1) : k0_chk4 i (ctr j) a b d e :=
  have hn (h : k0_cond2 i (ctr j) a b d e = 1#1) :=
    next_all (i 2) ⟨j, lt_of_le_of_lt hj (i 2).isLt⟩ ((cond2_iff i j hj a b d e).1 h).1
  have hl := last_all (i 2) ⟨j, lt_of_le_of_lt hj (i 2).isLt⟩ hj
  ⟨fun h => (hn h).1, fun h => (hn h).2.1, fun h => (hn h).2.2.1, fun h => (hn h).2.2.2.1, fun h => (hn h).2.2.2.2,
    fun _ => hl.1, fun _ => hl.2⟩

/-- Where the walk's two tiles lie. -/
theorem off8_of (hj : j + 2 ≤ (i 2).val) : k0_off8 i (ctr j) 1#32 = ![0, ((i 2).val - (j + 1)) * 512, 0]
    ∧ k0_off8 i (ctr j) 2#32 = ![0, ((i 2).val - (j + 2)) * 512, 0] ∧ k0_off9 i (ctr j) = ![0, ((i 2).val - j) * 512, 0] :=
  off8_all (i 2) ⟨j, lt_of_le_of_lt (by omega) (i 2).isLt⟩ hj
theorem off12_of (hj : j + 1 ≤ (i 2).val) : k0_off12 i (ctr j) = ![0, ((i 2).val - (j + 1)) * 512, 0]
    ∧ k0_off13 i (ctr j) = ![0, ((i 2).val - j) * 512, 0] :=
  off12_all (i 2) ⟨j, lt_of_le_of_lt (by omega) (i 2).isLt⟩ hj
theorem off14_of (hj : j ≤ (i 2).val) : k0_off14 i (ctr j) = ![0, ((i 2).val - j) * 512, 0] :=
  off14_all (i 2) ⟨j, lt_of_le_of_lt hj (i 2).isLt⟩ hj
theorem off5_of : k0_off5 i = ![0, (i 2).val * 512, 0] := off5_all (i 2)

end Point

end Cert.Proof.KI

end
-- ==== Proof.KI.Walk.lean ====
/- The attention kernel's walk over the key tiles, as the label its while loop calls: whatever the counter and the bounds,
   the walk keeps the arrays it reads, and hands its scratch buffers back at some contents, with a counter that does not
   pass the query tile. -/
module

public import proofs.«01_k».proof.Proof.KI.Words
public import proofs.«01_k».proof.Proof.Gen.KernelIdeal.Loops
public import Idealize.ShloMosaic.Lib.Pipeline.FrameBody
public import Idealize.ShloMosaic.Lib.WritesUnit
public import Idealize.ShloMosaic.Lib.WholeRead
public import Idealize.ShloMosaic.Lib.VecWindow
public import Idealize.ShloMosaic.Lib.Ring
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ### What a load reads after stores -/

section Slots

variable {sig' : RefSig} {κ : Kind} {sp : Space} {s : Shape} {e : EltTy} {Val : EltTy → Type} (v : View sig' κ sp s e) (f : v.ty.Contents Val)

/-- A load of the rectangle stored last reads what was stored. -/
theorem load_hit {off size : Fin s.rank → ℕ} (h h' : ∀ a, off a + size a ≤ s.size a) (w : (Rect.unit off size h).shape.Idx → Val e)
    (L : List (View.Piece Val s e)) :
    v.readAt Val (Rect.unit off size h').toLoadRect (v.writes Val f (⟨Rect.unit off size h, w⟩ :: L)) = w :=
  funext fun x => View.read_writes_cons_emb v f (Rect.unit off size h) w L x

theorem cov_hit [∀ e, Nonempty (Val e)] {off size : Fin s.rank → ℕ} (h h' : ∀ a, off a + size a ≤ s.size a)
    (w : (Rect.unit off size h).shape.Idx → Val e) (L : List (View.Piece Val s e)) :
    v.readCov (⟨Rect.unit off size h, w⟩ :: L) (Rect.unit off size h').toLoadRect = w :=
  load_hit v v.junk h h' w L

/-- A load of another slot passes the store by. -/
theorem load_miss {off size off' size' : Fin s.rank → ℕ} (h : ∀ a, off a + size a ≤ s.size a) (h' : ∀ a, off' a + size' a ≤ s.size a)
    (w : (Rect.unit off size h).shape.Idx → Val e) (L : List (View.Piece Val s e)) (a : Fin s.rank)
    (hd : off' a + size' a ≤ off a ∨ off a + size a ≤ off' a) :
    v.readAt Val (Rect.unit off' size' h').toLoadRect (v.writes Val f (⟨Rect.unit off size h, w⟩ :: L))
      = v.readAt Val (Rect.unit off' size' h').toLoadRect (v.writes Val f L) :=
  funext fun x => View.read_writes_cons_unit_of_not_mem v f h w L _ rfl a (by
    have hx : (((Rect.unit off' size' h').toLoadRect.idx x) a).val = off' a + 1 * (x a).val := rfl
    have hb : (x a).val < size' a := (x a).isLt
    rw [hx]; omega)

theorem cov_miss [∀ e, Nonempty (Val e)] {off size off' size' : Fin s.rank → ℕ} (h : ∀ a, off a + size a ≤ s.size a)
    (h' : ∀ a, off' a + size' a ≤ s.size a) (w : (Rect.unit off size h).shape.Idx → Val e) (L : List (View.Piece Val s e)) (a : Fin s.rank)
    (hd : off' a + size' a ≤ off a ∨ off a + size a ≤ off' a) :
    v.readCov (⟨Rect.unit off size h, w⟩ :: L) (Rect.unit off' size' h').toLoadRect = v.readCov L (Rect.unit off' size' h').toLoadRect :=
  load_miss v v.junk h h' w L a hd

end Slots

/-- The first of two slots of a buffer over the stacked rows. -/
def slotW (X : Vec F S2x1024x128 .f32) : Vec F S1x1024x128 .f32 :=
  fun y => X ((Rect.unit (s := S2x1024x128) ![0, 0, 0] S1x1024x128.size inb_S2x1024x128_S1x1024x128_0_0_0).toLoadRect.idx y)
def slotS (X : Vec F S2x1024x512 .f32) : Vec F S1x1024x512 .f32 :=
  fun y => X ((Rect.unit (s := S2x1024x512) ![0, 0, 0] S1x1024x512.size inb_S2x1024x512_S1x1024x512_0_0_0).toLoadRect.idx y)

theorem slotW_read {sp : Space} (v : View sig .tc sp S2x1024x128 .f32) (f : v.ty.Contents (Elt F)) :
    slotW (v.read (Elt F) f) = v.readAt (Elt F) (Rect.unit (s := S2x1024x128) ![0, 0, 0] S1x1024x128.size inb_S2x1024x128_S1x1024x128_0_0_0).toLoadRect f := rfl
theorem slotS_read {sp : Space} (v : View sig .tc sp S2x1024x512 .f32) (f : v.ty.Contents (Elt F)) :
    slotS (v.read (Elt F) f) = v.readAt (Elt F) (Rect.unit (s := S2x1024x512) ![0, 0, 0] S1x1024x512.size inb_S2x1024x512_S1x1024x512_0_0_0).toLoadRect f := rfl
theorem slotW_unread {sp : Space} {mr : Memref sig .tc sp S2x1024x128 .f32} (h : mr.IsWhole) (X : Vec F S2x1024x128 .f32) :
    mr.view.readAt (Elt F) (Rect.unit (s := S2x1024x128) ![0, 0, 0] ![1, 1024, 128] inb_S2x1024x128_S1x1024x128_0_0_0).toLoadRect (h.unread X) = slotW X :=
  funext fun x => h.readAt_unread X _ x
theorem slotS_unread {sp : Space} {mr : Memref sig .tc sp S2x1024x512 .f32} (h : mr.IsWhole) (X : Vec F S2x1024x512 .f32) :
    mr.view.readAt (Elt F) (Rect.unit (s := S2x1024x512) ![0, 0, 0] ![1, 1024, 512] inb_S2x1024x512_S1x1024x512_0_0_0).toLoadRect (h.unread X) = slotS X :=
  funext fun x => h.readAt_unread X _ x

theorem covW_miss {sp : Space} (v : View sig .tc sp S2x1024x128 .f32) (w) (L : List (View.Piece (Elt F) S2x1024x128 .f32)) :
    v.readCov (⟨Rect.unit (s := S2x1024x128) ![0, 0, 0] ![1, 1024, 128] inb_S2x1024x128_S1x1024x128_0_0_0, w⟩ :: L)
        (Rect.unit (s := S2x1024x128) ![1, 0, 0] ![1, 1024, 128] inb_S2x1024x128_S1x1024x128_1_0_0).toLoadRect
      = v.readCov L (Rect.unit (s := S2x1024x128) ![1, 0, 0] ![1, 1024, 128] inb_S2x1024x128_S1x1024x128_1_0_0).toLoadRect :=
  cov_miss v _ _ w L 0 (.inr (le_refl 1))
theorem covS_miss {sp : Space} (v : View sig .tc sp S2x1024x512 .f32) (w) (L : List (View.Piece (Elt F) S2x1024x512 .f32)) :
    v.readCov (⟨Rect.unit (s := S2x1024x512) ![0, 0, 0] ![1, 1024, 512] inb_S2x1024x512_S1x1024x512_0_0_0, w⟩ :: L)
        (Rect.unit (s := S2x1024x512) ![1, 0, 0] ![1, 1024, 512] inb_S2x1024x512_S1x1024x512_1_0_0).toLoadRect
      = v.readCov L (Rect.unit (s := S2x1024x512) ![1, 0, 0] ![1, 1024, 512] inb_S2x1024x512_S1x1024x512_1_0_0).toLoadRect :=
  cov_miss v _ _ w L 0 (.inr (le_refl 1))

/-- Tile `t` of the keys or values of a head. -/
def tile (X : Vec F S1x8192x128 .bf16) (t : ℕ) : Vec F S1x512x128 .bf16 :=
  fun y => X fun a => match a with
    | 0 => (0 : Fin 1)
    | 1 => (⟨(t * 512 + (y 1).val) % 8192, Nat.mod_lt _ (by omega)⟩ : Fin 8192)
    | 2 => y 2

/-- The loads of a whole buffer held at known contents. -/
theorem load_whole {sp : Space} {s : Shape} {e : EltTy} {mr : Memref sig .tc sp s e} (h : mr.IsWhole) (X : s.Idx → Elt F e)
    {off : Fin s.rank → ℕ} (inb : ∀ a, off a + s.size a ≤ s.size a) :
    mr.view.readAt (Elt F) (Rect.unit off s.size inb).toLoadRect (h.unread X) = X :=
  funext fun x => (h.readAt_unread X _ x).trans (congrArg X (funext fun a => Fin.ext (by
    show off a + 1 * (x a).val = (x a).val
    have := inb a; omega)))

theorem load_tile {sp : Space} {mr : Memref sig .tc sp S1x8192x128 .bf16} (h : mr.IsWhole) (X : Vec F S1x8192x128 .bf16)
    (t : ℕ) (ht : t < 16) {off : Fin S1x8192x128.rank → ℕ} (ho : off = ![0, t * 512, 0])
    (inb : ∀ a, off a + S1x512x128.size a ≤ S1x8192x128.size a) :
    mr.view.readAt (Elt F) (Rect.unit (s := S1x8192x128) off S1x512x128.size inb).toLoadRect (h.unread X) = tile X t := by
  subst ho
  funext x
  refine (h.readAt_unread X _ x).trans (congrArg X (funext fun a => Fin.ext ?_))
  have h1 : (x 1).val < 512 := (x 1).isLt
  match a with
  | 0 => show 0 + 1 * (x 0).val = 0; have : (x 0).val < 1 := (x 0).isLt; omega
  | 1 => show t * 512 + 1 * (x 1).val = (t * 512 + (x 1).val) % 8192; omega
  | 2 => show 0 + 1 * (x 2).val = (x 2).val; omega

section Label

variable (c : Dev nD) (i : grid0.Coords) (v19 : F .f32) (arg15 : Memref sig .tc .smem S2x16 .f32) (harg15 : arg15.IsWhole) (v44 v49 : F .f32)
  (arg11 : Memref sig .tc .vmem S1024x128 .f32) (harg11 : arg11.IsWhole) (v20 : IVec S1x512 32)
  (arg4 : Memref sig .tc .vmem S1x8192x128 .bf16) (harg4 : arg4.IsWhole) (v16 : FVec F S1024x128 .bf16)
  (arg14 : Memref sig .tc .vmem S2x1024x512 .f32) (harg14 : arg14.IsWhole) (arg13 : Memref sig .tc .vmem S2x1024x128 .f32) (harg13 : arg13.IsWhole)
  (arg12 : Memref sig .tc .vmem S2x1024x128 .f32) (harg12 : arg12.IsWhole) (arg5 : Memref sig .tc .vmem S1x8192x128 .bf16) (harg5 : arg5.IsWhole)
  (arg10 : Memref sig .tc .vmem S1024x256 .f32) (harg10 : arg10.IsWhole) (v21 : FVec F S512x128 .bf16)
  (x4 x5 : Vec F S1x8192x128 .bf16)

/-- What the walk holds: the keys and values at their contents, and the scratch buffers at some contents with the
    property `I` of five of them. -/
def held (I : Vec F S1024x256 .f32 → Vec F S1024x128 .f32 → Vec F S1x1024x128 .f32 → Vec F S1x1024x128 .f32 → Vec F S1x1024x512 .f32 → Prop) : sProp 𝕄 :=
  iprop(owns (c : Thread nD τ) arg4 fullShare x4 ∗ owns (c : Thread nD τ) arg5 fullShare x5
    ∗ (∃ d, owns (c : Thread nD τ) arg15 fullShare d)
    ∗ ∃ a m al mt s, ⌜I a m (slotW al) (slotW mt) (slotS s)⌝ ∗ owns (c : Thread nD τ) arg10 fullShare a ∗ owns (c : Thread nD τ) arg11 fullShare m
      ∗ owns (c : Thread nD τ) arg12 fullShare al ∗ owns (c : Thread nD τ) arg13 fullShare mt ∗ owns (c : Thread nD τ) arg14 fullShare s)

variable (I : ℕ → Vec F S1024x256 .f32 → Vec F S1024x128 .f32 → Vec F S1x1024x128 .f32 → Vec F S1x1024x128 .f32 → Vec F S1x1024x512 .f32 → Prop)

/-- Whether the walk takes two more tiles: there are as many, and the two bounds do not say that all weights left are
    zero. -/
def more (j : ℕ) (w18 w19 : F .f32) (x y : Elt F .f32) : BitVec 1 :=
  Scalar.andi (Scalar.cmpi .sle (Scalar.addi (ctr j) 2#32) (BitVec.ofNat 32 (i 2).val))
    (Scalar.xori
      (Scalar.andi
        (Scalar.andi (Scalar.cmpf .ogt (k0_pay3 i v19 (ctr j) w18) (FloatOps.ofBits .f32 0#32))
          (Scalar.cmpf .ole (k0_pay4 v44 x) (k0_pay5 i v19 (ctr j) w18)))
        (Scalar.andi (Scalar.cmpf .ogt (k0_pay6 i v19 (ctr j) w19) (FloatOps.ofBits .f32 0#32))
          (Scalar.cmpf .ole (k0_pay7 v49 y) (k0_pay8 i v19 (ctr j) w19))))
      1#1)

/-- The label's specification from counter `j`. -/
def spec (j : ℕ) : sWPT 𝕄 (BitVec 32 × F .f32 × F .f32) := do
  sWPT.consume (held c arg15 arg11 arg4 arg14 arg13 arg12 arg5 arg10 x4 x5 (I j))
  let r ← sWPT.arbitrary
  let j' ← sWPT.arbitrary
  sWPT.assume (j' ≤ (i 2).val ∧ r.1 = ctr j' ∧ ∃ w18 w19 x y, ¬ more i v19 v44 v49 j' w18 w19 x y = 1#1)
  sWPT.produce (held c arg15 arg11 arg4 arg14 arg13 arg12 arg5 arg10 x4 x5 (I j'))
  pure r

theorem spec_apply (j : ℕ) (K : BitVec 32 × F .f32 × F .f32 → sProp 𝕄) :
    spec c i v19 arg15 v44 v49 arg11 arg4 arg14 arg13 arg12 arg5 arg10 x4 x5 I j K
      = iprop(held c arg15 arg11 arg4 arg14 arg13 arg12 arg5 arg10 x4 x5 (I j)
        ∗ ∀ (r : BitVec 32 × F .f32 × F .f32) (j' : ℕ), ⌜j' ≤ (i 2).val ∧ r.1 = ctr j' ∧ ∃ w18 w19 x y, ¬ more i v19 v44 v49 j' w18 w19 x y = 1#1⌝
          -∗ (held c arg15 arg11 arg4 arg14 arg13 arg12 arg5 arg10 x4 x5 (I j') -∗ K r)) := rfl

/-- Two more tiles of the walk, as the kernel's payloads: the scores of tile `j + 1` and the new maxima, the values of
    tile `j`, the scores of tile `j + 2`, the values of tile `j + 1`. -/
def Steps : Prop :=
  ∀ j a m al mt s, j + 2 ≤ (i 2).val → I j a m al mt s →
    let q : BitVec 32 := BitVec.ofNat 32 (i 2).val
    let k1 := tile x4 ((i 2).val - (j + 1))
    let k2 := tile x4 ((i 2).val - (j + 2))
    let m1 := k0_pay54 v19 v20 v16 (ctr j) q k1 m
    I (j + 2)
      (k0_pay9 v21 (tile x5 ((i 2).val - (j + 1))) (k0_pay57 m m1) (k0_pay55 v19 v20 v16 (ctr j) q k1)
        (k0_pay56 v19 v20 v16 (ctr j) q k1 m) (k0_pay59 v21 (tile x5 ((i 2).val - j)) al s mt a))
      (k0_pay65 v19 v20 v16 q (Scalar.subi q (ctr j)) k2 (k0_pay58 m1))
      (k0_pay64 v19 v20 v16 q (Scalar.subi q (ctr j)) k2 (k0_pay58 m1))
      (k0_pay63 v19 v20 v16 q (Scalar.subi q (ctr j)) k2 (k0_pay58 m1))
      (k0_pay62 v19 v20 v16 q (Scalar.subi q (ctr j)) k2)

set_option maxHeartbeats 4000000 in
theorem spec_le (E : Set ℕ) (hI : Steps i v19 v20 v16 v21 x4 x5 I) : ∀ k j, j ≤ (i 2).val → (i 2).val - j ≤ k → ∀ (w18 w19 : F .f32) K,
    spec c i v19 arg15 v44 v49 arg11 arg4 arg14 arg13 arg12 arg5 arg10 x4 x5 I j K
      ⊢ wp frame (wpE (defs₀ (F := F)) Variants.nat (c : Thread nD τ) (some k)) E
          (defs₀ (F := F) .tc 1 ⟨i, v19, arg15, harg15, v44, v49, arg11, harg11, v20, arg4, harg4, v16, arg14, harg14, arg13, harg13,
            arg12, harg12, arg5, harg5, arg10, harg10, v21, ctr j, w18, w19⟩) K := by
  intro k
  induction k using Nat.strong_induction_on with
  | _ k ih =>
    intro j hj hk w18 w19 K
    rw [spec_apply]
    show _ ⊢ wp frame (wpE (defs₀ (F := F)) Variants.nat (c : Thread nD τ) (some k)) E
      (cc0_while1 i v19 arg15 harg15 v44 v49 arg11 harg11 v20 arg4 harg4 v16 arg14 harg14 arg13 harg13
            arg12 harg12 arg5 harg5 arg10 harg10 v21 (ctr j) w18 w19) K
    simp only [cc0_while1_eq_skeleton]; unfold cc0_while1_skel
    simp only [k0_part7_eq_skeleton, k0_part8_eq_skeleton, k0_part9_eq_skeleton]
    unfold held owns
    iintro ⟨⟨⟨%f4, %hf4, H4⟩, ⟨%f5, %hf5, H5⟩, ⟨%d15, %f15, %hf15, H15⟩, %a, %m, %al, %mt, %s, %hIj, ⟨%f10, %hf10, H10⟩, ⟨%f11, %hf11, H11⟩, ⟨%f12, %hf12, H12⟩, ⟨%f13, %hf13, H13⟩, ⟨%f14, %hf14, H14⟩⟩, Hk⟩
    obtain rfl := harg4.eq_unread hf4; obtain rfl := harg5.eq_unread hf5; obtain rfl := harg15.eq_unread hf15
    obtain rfl := harg10.eq_unread hf10; obtain rfl := harg11.eq_unread hf11; obtain rfl := harg12.eq_unread hf12
    obtain rfl := harg13.eq_unread hf13; obtain rfl := harg14.eq_unread hf14
    have h1 := chk1_of i j hj
    sl_exec
    split_ifs with hc
    · obtain ⟨k, rfl⟩ : ∃ k', k = k' + 1 := ⟨k - 1, by have := (two_more i j hj).1 ((and_bits _ _).1 hc).1; omega⟩
      have h2 := chk2_of i j ((two_more i j hj).1 ((and_bits _ _).1 hc).1)
      sl_exec
      rw [ctr_two i j hj]
      iapply (wp_call_spec Variants.nat (c : Thread nD τ) (some (k + 1)) E (spec c i v19 arg15 v44 v49 arg11 arg4 arg14 arg13 arg12 arg5 arg10 x4 x5 I (j + 2)) k
        (fun u hu => by cases hu; exact Nat.lt_succ_self k) (ih k (Nat.lt_succ_self k) (j + 2) (by have := (two_more i j hj).1 ((and_bits _ _).1 hc).1; omega) (by omega) _ _))
      rw [spec_apply]; unfold held owns
      isplitr [Hk]
      · isplitl [H4]
        · iexists _; isplitr; · ipureintro; exact harg4.read_unread _
          iexact H4
        isplitl [H5]
        · iexists _; isplitr; · ipureintro; exact harg5.read_unread _
          iexact H5
        isplitl [H15]
        · iexists _, _; isplitr; swap; · iexact H15
          ipureintro; rfl
        iexists _, _, _, _, _; isplitr; swap
        · isplitl [H10]
          · iexists _; isplitr; swap; · iexact H10
            ipureintro; rfl
          isplitl [H11]
          · iexists _; isplitr; swap; · iexact H11
            ipureintro; rfl
          isplitl [H12]
          · iexists _; isplitr; swap; · iexact H12
            ipureintro; rfl
          isplitl [H13]
          · iexists _; isplitr; swap; · iexact H13
            ipureintro; rfl
          iexists _; isplitr; swap; · iexact H14
          ipureintro; rfl
        ipureintro
        have hj2 := (two_more i j hj).1 ((and_bits _ _).1 hc).1
        have e := hI j a m _ _ _ hj2 hIj
        obtain ⟨o1, o2, o3⟩ := off8_of i j hj2
        have hq : (i 2).val < 16 := (i 2).isLt
        have t51 := load_tile harg5 x5 _ (by omega) o1 (k0_off8_inb i (ctr j) h2 0)
        have t50 := load_tile harg5 x5 _ (by omega) o3 (k0_off9_inb i (ctr j) h2)
        have t41 := load_tile harg4 x4 _ (by omega) o1 (k0_off8_inb i (ctr j) h2 0)
        have t42 := load_tile harg4 x4 _ (by omega) o2 (k0_off8_inb i (ctr j) h2 1)
        have em := load_whole harg11 m inb_S1024x128_S1024x128_0_0
        have ea := load_whole harg10 a inb_S1024x256_S1024x256_0_0
        delta spec_le.sl.v251 spec_le.sl.v268 spec_le.sl.v232 spec_le.sl.v234 spec_le.sl.v236 spec_le.sl.v294 spec_le.sl.v296 spec_le.sl.v298 spec_le.sl.v303 spec_le.sl.H10_1 spec_le.sl.H11_1 spec_le.sl.H12_2 spec_le.sl.H13_2 spec_le.sl.H14_2 spec_le.sl.r_4 spec_le.sl.r_5 spec_le.sl.r_6

        rw [View.read_writes_full, View.read_writes_full]
        simp only [slotW_read, slotS_read, load_hit, cov_hit, covW_miss, covS_miss, t41, t42, t50, t51, em, ea, slotW_unread, slotS_unread]
        exact e
      iintro %r %j' %hr H
      rw [wp_ret]; imodintro
      iapply Hk
      · ipureintro; exact hr
      iexact H
    · sl_step
      iapply Hk $$ %(ctr j, w18, w19) %j
      · ipureintro
        exact ⟨hj, rfl, w18, w19, _, _, hc⟩
      isplitl [H4]
      · iexists _; isplitr; · ipureintro; exact harg4.read_unread _
        iexact H4
      isplitl [H5]
      · iexists _; isplitr; · ipureintro; exact harg5.read_unread _
        iexact H5
      isplitl [H15]
      · iexists _, _; isplitr; swap; · iexact H15
        ipureintro; rfl
      iexists a, m, al, mt, s; isplitr
      · ipureintro; exact hIj
      isplitl [H10]
      · iexists _; isplitr; swap; · iexact H10
        ipureintro; exact hf10
      isplitl [H11]
      · iexists _; isplitr; swap; · iexact H11
        ipureintro; exact hf11
      isplitl [H12]
      · iexists _; isplitr; swap; · iexact H12
        ipureintro; exact hf12
      isplitl [H13]
      · iexists _; isplitr; swap; · iexact H13
        ipureintro; exact hf13
      iexists _; isplitr; swap; · iexact H14
      ipureintro; exact hf14

end Label

end Cert.Proof.KI

end
-- ==== Proof.KI.Body.lean ====
/- The attention kernel at one grid point: from its windows and its scratch buffers at anything to its output, by the walk's
   specification. -/
module

public import proofs.«01_k».proof.Proof.KI.Walk
public import proofs.«01_k».proof.Proof.Gen.KernelIdeal.Loops
public import Idealize.ShloMosaic.Lib.Pipeline.FrameBody
public import Idealize.ShloMosaic.Lib.WritesUnit
public import Idealize.ShloMosaic.Lib.WholeRead
public import Idealize.ShloMosaic.Lib.VecWindow
public import Idealize.ShloMosaic.Lib.Ring
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The slope of the head a grid point is at. -/
def slopeAt (i : grid0.Coords) (x7 : Vec F S4 .f32) : F .f32 := x7 fun a => match a with | 0 => (i 1 : Fin 4)
/-- The one word of the difference's weight. -/
def weight (x6 : Vec F S1x1 .f32) : F .f32 := x6 fun a => match a with | 0 => (0 : Fin 1) | 1 => (0 : Fin 1)

theorem off1_of (i : grid0.Coords) : k0_off1 i = ![(i 1).val] := by
  have h : ∀ h : Fin 4, k0_off1 (fun a => match a with | 0 => (0 : Fin 4) | 1 => h | 2 => (0 : Fin 16)) = ![h.val] := by decide
  exact h (i 1)

theorem load_slope (i : grid0.Coords) {mr : Memref sig .tc .smem S4 .f32} (h : mr.IsWhole) (X : Vec F S4 .f32) (x) :
    mr.view.readAt (Elt F) (Rect.unit (s := S4) (k0_off1 i) S1.size (k0_off1_inb i)).toLoadRect (h.unread X) x = slopeAt i X :=
  (h.readAt_unread X _ x).trans (congrArg X (funext fun a => Fin.ext (by
    match a with
    | 0 =>
      have hx : (x 0).val < 1 := (x 0).isLt
      show k0_off1 i 0 + 1 * (x 0).val = (i 1).val
      have e : k0_off1 i 0 = (i 1).val := congrFun (off1_of i) 0
      refine (congrArg (· + 1 * (x 0).val) e).trans ?_
      show (i 1).val + 1 * (x 0).val = (i 1).val; omega)))

theorem load_weight {mr : Memref sig .tc .smem S1x1 .f32} (h : mr.IsWhole) (X : Vec F S1x1 .f32) (x) :
    mr.view.readAt (Elt F) (Rect.unit (s := S1x1) ![0, 0] S1x1.size inb_S1x1_S1x1_0_0).toLoadRect (h.unread X) x = weight X :=
  (h.readAt_unread X _ x).trans (congrArg X (funext fun a => Fin.ext (by
    match a with
    | 0 => show 0 + 1 * (x 0).val = 0; have hx : (x 0).val < 1 := (x 0).isLt; omega
    | 1 => show 0 + 1 * (x 1).val = 0; have hx : (x 1).val < 1 := (x 1).isLt; omega)))

section Whole

variable (c : Dev nD) (i : grid0.Coords) (arg3 : Memref sig .tc .vmem S1x512x128 .bf16) (harg3 : arg3.IsWhole)
  (arg4 : Memref sig .tc .vmem S1x8192x128 .bf16) (harg4 : arg4.IsWhole) (arg5 : Memref sig .tc .vmem S1x8192x128 .bf16) (harg5 : arg5.IsWhole)
  (arg6 : Memref sig .tc .smem S1x1 .f32) (harg6 : arg6.IsWhole) (arg7 : Memref sig .tc .smem S4 .f32) (harg7 : arg7.IsWhole)
  (arg8 : Memref sig .tc .vmem S1x128 .f32) (harg8 : arg8.IsWhole) (arg9 : Memref sig .tc .vmem S1x512x128 .f32) (harg9 : arg9.IsWhole)
  (arg10 : Memref sig .tc .vmem S1024x256 .f32) (harg10 : arg10.IsWhole) (arg11 : Memref sig .tc .vmem S1024x128 .f32) (harg11 : arg11.IsWhole)
  (arg12 : Memref sig .tc .vmem S2x1024x128 .f32) (harg12 : arg12.IsWhole) (arg13 : Memref sig .tc .vmem S2x1024x128 .f32) (harg13 : arg13.IsWhole)
  (arg14 : Memref sig .tc .vmem S2x1024x512 .f32) (harg14 : arg14.IsWhole) (arg15 : Memref sig .tc .smem S2x16 .f32) (harg15 : arg15.IsWhole)

set_option maxHeartbeats 4000000 in
/-- The part before the walk: the norms of a head's keys, at its first query tile, and the scores of the diagonal
    tile. -/
theorem head (E : Set ℕ) (v16 : FVec F S1024x128 .bf16) (v19 : F .f32) (v20 : IVec S1x512 32) (v32 : IVec S512x128 1)
    (x4 : Vec F S1x8192x128 .bf16) (m : Vec F S1024x128 .f32)
    (K : (Σ' (v44 : F .f32) (v49 : F .f32) (v71 : FVec F S1024x512 .f32) (v72 : Vec F S1024x128 .f32), FVec F S1024x128 .f32) → sProp 𝕄) :
    iprop(owns (c : Thread nD τ) arg4 fullShare x4 ∗ owns (c : Thread nD τ) arg11 fullShare m ∗ (∃ s, owns (c : Thread nD τ) arg14 fullShare s)
        ∗ (∃ d, owns (c : Thread nD τ) arg15 fullShare d)
        ∗ (iprop(owns (c : Thread nD τ) arg4 fullShare x4 ∗ owns (c : Thread nD τ) arg11 fullShare m ∗ (∃ s, owns (c : Thread nD τ) arg14 fullShare s)
        ∗ (∃ d, owns (c : Thread nD τ) arg15 fullShare d))
          -∗ K ⟨k0_pay29 v16, k0_pay30 v16, k0_pay31 (BitVec.ofNat 32 (i 2).val) v16 v19 v20 (tile x4 (i 2).val), m,
              k0_pay32 (BitVec.ofNat 32 (i 2).val) v16 v19 v20 (tile x4 (i 2).val) m⟩))
      ⊢ wp frame (wpE (defs₀ (F := F)) Variants.nat (c : Thread nD τ) none) E
          (k0_part4 i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) v16 v19 v20 v32) K := by
  simp only [k0_part4_eq_skeleton]; unfold k0_part4_skel
  unfold owns
  iintro ⟨⟨%f4, %hf4, H4⟩, ⟨%f11, %hf11, H11⟩, ⟨%s, %f14, %hf14, H14⟩, ⟨%d15, %f15, %hf15, H15⟩, Hk⟩
  obtain rfl := harg4.eq_unread hf4; obtain rfl := harg11.eq_unread hf11
  have hq : (i 2).val < 16 := (i 2).isLt
  have t4 := load_tile harg4 x4 _ hq (off5_of i) (k0_off5_inb i)
  have em := load_whole harg11 m inb_S1024x128_S1024x128_0_0
  split_ifs with hc
  · sl_exec
    sl_step
    iapply Hk
    isplitl [H4]
    · iexists _; isplitr; · ipureintro; exact harg4.read_unread _
      iexact H4
    isplitl [H11]
    · iexists _; isplitr; · ipureintro; exact harg11.read_unread _
      iexact H11
    isplitl [H14]
    · iexists _, _; isplitr; swap; · iexact H14
      ipureintro; rfl
    iexists _, _; isplitr; swap; · iexact H15
    ipureintro; rfl
  · sl_exec
    sl_step
    iapply Hk
    isplitl [H4]
    · iexists _; isplitr; · ipureintro; exact harg4.read_unread _
      iexact H4
    isplitl [H11]
    · iexists _; isplitr; · ipureintro; exact harg11.read_unread _
      iexact H11
    isplitl [H14]
    · iexists _, _; isplitr; swap; · iexact H14
      ipureintro; rfl
    iexists _, _; isplitr; swap; · iexact H15
    ipureintro; rfl

/-- The upper and the lower half of the stacked rows. -/
def upper (a : Vec F S1024x256 .f32) : Vec F S512x256 .f32 :=
  fun y => a ((Rect.unit (s := S1024x256) ![0, 0] S512x256.size inb_S1024x256_S512x256_0_0).toLoadRect.idx y)
def lower (a : Vec F S1024x256 .f32) : Vec F S512x256 .f32 :=
  fun y => a ((Rect.unit (s := S1024x256) ![512, 0] S512x256.size inb_S1024x256_S512x256_512_0).toLoadRect.idx y)

theorem upper_read (v : View sig .tc .vmem S1024x256 .f32) (f) (w) (L : List (View.Piece (Elt F) S1024x256 .f32)) :
    v.readAt (Elt F) (Rect.unit (s := S1024x256) ![0, 0] ![512, 256] inb_S1024x256_S512x256_0_0).toLoadRect
        (v.writes (Elt F) f (⟨Rect.unit (s := S1024x256) ![0, 0] ![1024, 256] inb_S1024x256_S1024x256_0_0, w⟩ :: L)) = upper w :=
  funext fun y => congrFun (View.read_writes_full v f inb_S1024x256_S1024x256_0_0 w L)
    ((Rect.unit (s := S1024x256) ![0, 0] S512x256.size inb_S1024x256_S512x256_0_0).toLoadRect.idx y)
theorem lower_read (v : View sig .tc .vmem S1024x256 .f32) (f) (w) (L : List (View.Piece (Elt F) S1024x256 .f32)) :
    v.readAt (Elt F) (Rect.unit (s := S1024x256) ![512, 0] ![512, 256] inb_S1024x256_S512x256_512_0).toLoadRect
        (v.writes (Elt F) f (⟨Rect.unit (s := S1024x256) ![0, 0] ![1024, 256] inb_S1024x256_S1024x256_0_0, w⟩ :: L)) = lower w :=
  funext fun y => congrFun (View.read_writes_full v f inb_S1024x256_S1024x256_0_0 w L)
    ((Rect.unit (s := S1024x256) ![512, 0] S512x256.size inb_S1024x256_S512x256_512_0).toLoadRect.idx y)

/-- What the kernel stores, from the accumulated numerators and denominators of both halves. -/
def finish (a : Vec F S1024x256 .f32) (lam : Elt F .f32) (g : Vec F S1x128 .f32) : FVec F S1x512x128 .f32 :=
  k0_pay1 (lower a) (k0_pay50 (upper a)) lam g

variable (I : ℕ → Vec F S1024x256 .f32 → Vec F S1024x128 .f32 → Vec F S1x1024x128 .f32 → Vec F S1x1024x128 .f32 → Vec F S1x1024x512 .f32 → Prop)

/-- The property holds when the walk starts: of the diagonal tile's scores, with nothing accumulated. -/
def Starts (v16 : FVec F S1024x128 .bf16) (v19 : F .f32) (v20 : IVec S1x512 32) (x4 : Vec F S1x8192x128 .bf16) : Prop :=
  let q : BitVec 32 := BitVec.ofNat 32 (i 2).val
  let m1 := k0_pay32 q v16 v19 v20 (tile x4 (i 2).val) k0_pay23
  I 0 k0_pay22 (k0_pay36 m1) (k0_pay35 k0_pay23 m1) (k0_pay34 m1) (k0_pay33 (k0_pay31 q v16 v19 v20 (tile x4 (i 2).val)))

/-- Where the walk ends, the last one or two tiles give an output with the property `O`. -/
def Ends (O : FVec F S1x512x128 .f32 → Prop) (v16 : FVec F S1024x128 .bf16) (v19 : F .f32) (v20 : IVec S1x512 32) (v21 : FVec F S512x128 .bf16)
    (x4 x5 : Vec F S1x8192x128 .bf16) (lam : Elt F .f32) (g : Vec F S1x128 .f32) : Prop :=
  ∀ j a m al mt s, j ≤ (i 2).val → (∃ w18 w19 x y, ¬ more i v19 (k0_pay29 v16) (k0_pay30 v16) j w18 w19 x y = 1#1) → I j a m al mt s →
    ∀ x y : Elt F .f32,
    let q : BitVec 32 := BitVec.ofNat 32 (i 2).val
    let b : BitVec 32 := Scalar.subi q (Scalar.addi (ctr j) 1#32)
    let k1 := tile x4 ((i 2).val - (j + 1))
    let t : BitVec 1 := k0_cond2 i (ctr j)
      (Scalar.cmpf .ogt (k0_pay42 q v19 (k0_pay39 m) b) (FloatOps.ofBits .f32 0#32))
      (Scalar.cmpf .ole (k0_pay43 (k0_pay29 v16) x) (k0_pay44 q v19 (k0_pay39 m) b))
      (Scalar.cmpf .ogt (k0_pay45 q v19 (k0_pay40 m) b) (FloatOps.ofBits .f32 0#32))
      (Scalar.cmpf .ole (k0_pay46 (k0_pay30 v16) y) (k0_pay47 q v19 (k0_pay40 m) b))
    (t = 1#1 → O (finish (k0_pay48 v21 (k0_pay17 (tile x5 ((i 2).val - (j + 1)))) (k0_pay18 (k0_pay14 q v16 v19 v20 (ctr j) k1 m))
        (k0_pay12 q v16 v19 v20 (ctr j) k1) (k0_pay13 q v16 v19 v20 (ctr j) k1 m) (k0_pay16 v21 (tile x5 ((i 2).val - j)) al s mt a)) lam g))
    ∧ (¬ t = 1#1 → O (finish (k0_pay49 v21 (tile x5 ((i 2).val - j)) al s mt a) lam g))

set_option maxHeartbeats 4000000 in
/-- The kernel at a grid point: its windows kept, its output one that has the property the walk's end gives. -/
theorem whole (E : Set ℕ) (x3 : Vec F S1x512x128 .bf16) (x4 x5 : Vec F S1x8192x128 .bf16) (x6 : Vec F S1x1 .f32) (x7 : Vec F S4 .f32)
    (x8 : Vec F S1x128 .f32) (O : FVec F S1x512x128 .f32 → Prop)
    (h0 : Starts i I (k0_pay19 x3) (k0_pay20 (slopeAt i x7)) (iota .tc S1x512 32 [1] iota_S1x512_d1_w32) x4)
    (hs : Steps i (k0_pay20 (slopeAt i x7)) (iota .tc S1x512 32 [1] iota_S1x512_d1_w32) (k0_pay19 x3) k0_pay21 x4 x5 I)
    (he : Ends i I O (k0_pay19 x3) (k0_pay20 (slopeAt i x7)) (iota .tc S1x512 32 [1] iota_S1x512_d1_w32) k0_pay21 x4 x5 (weight x6) x8)
    (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d) ∗ (∃ d, owns (c : Thread nD τ) arg14 fullShare d)
        ∗ (∃ d, owns (c : Thread nD τ) arg15 fullShare d)
        ∗ (iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ (∃ d, ⌜O d⌝ ∗ owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d) ∗ (∃ d, owns (c : Thread nD τ) arg14 fullShare d)
        ∗ (∃ d, owns (c : Thread nD τ) arg15 fullShare d)) -∗ K ⟨⟩))
      ⊢ wp frame (wpE (defs₀ (F := F)) Variants.nat (c : Thread nD τ) none) E
          (cc0_diff_attn i arg3 harg3 arg4 harg4 arg5 harg5 arg6 harg6 arg7 harg7 arg8 harg8 arg9 harg9 arg10 harg10 arg11 harg11 arg12 harg12 arg13 harg13 arg14 harg14 arg15 harg15) K := by
  simp only [cc0_diff_attn_eq_skeleton]; unfold cc0_diff_attn_skel
  simp only [k0_part3_eq_skeleton, k0_part5_eq_skeleton, k0_part6_eq_skeleton]
  delta k0_part6_skel
  simp -zeta -zetaHave -zetaUnused only [k0_part1_eq_skeleton, k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  have e3 := load_whole harg3 x3 inb_S1x512x128_S1x512x128_0_0_0
  have e8 := load_whole harg8 x8 inb_S1x128_S1x128_0_0
  generalize hp : @k0_part4 F _ = p4
  sl_exec
  subst hp
  rw [wp_bind]
  iapply (head c i arg3 harg3 arg4 harg4 arg5 harg5 arg6 harg6 arg7 harg7 arg8 harg8 arg9 harg9 arg10 harg10 arg11 harg11 arg12 harg12 arg13 harg13 arg14 harg14 arg15 harg15 E _ _ _ _ x4 k0_pay23)
  unfold owns
  isplitl [H4]
  · iexists _; isplitr; · ipureintro; exact harg4.read_unread _
    iexact H4
  isplitl [H11]
  · iexists _; isplitr; swap; · iexact H11
    ipureintro
    exact View.read_writes_full _ _ _ _ _
  isplitl [H14]
  · iexists _, _; isplitr; swap; · iexact H14
    ipureintro; rfl
  isplitl [H15]
  · iexists _, _; isplitr; swap; · iexact H15
    ipureintro; rfl
  iintro ⟨⟨%f4, %hf4, H4⟩, ⟨%f11, %hf11, H11⟩, ⟨%d14, %f14, -, H14⟩, ⟨%d15, %f15, -, H15⟩⟩
  obtain rfl := harg4.eq_unread hf4; obtain rfl := harg11.eq_unread hf11
  have em := load_whole harg11 (k0_pay23 (F := F)) inb_S1024x128_S1024x128_0_0
  sl_exec
  have es : whole.sl.r_1 c i arg7 harg7 x7 = k0_pay20 (slopeAt i x7) := by
    delta whole.sl.r_1
    exact congrArg _ (load_slope i harg7 x7 _)
  rw [es]
  have hv : whole.sl.v20 = iota .tc S1x512 32 [1] iota_S1x512_d1_w32 := by delta whole.sl.v20; rfl
  rw [hv]
  iapply (wp_call_spec Variants.nat (c : Thread nD τ) none E
    (spec c i (k0_pay20 (slopeAt i x7)) arg15 (k0_pay29 (k0_pay19 x3)) (k0_pay30 (k0_pay19 x3)) arg11 arg4 arg14 arg13 arg12 arg5 arg10 x4 x5 I 0) (i 2).val
    (fun u hu => nomatch hu) (spec_le c i _ arg15 harg15 _ _ arg11 harg11 _ arg4 harg4 _ arg14 harg14 arg13 harg13 arg12 harg12 arg5 harg5 arg10 harg10 _ x4 x5 I E hs
      (i 2).val 0 (Nat.zero_le _) (Nat.sub_le _ _) _ _))
  rw [spec_apply]; unfold held owns
  isplitr [H3 H6 H7 H8 H9 Hk]
  · isplitl [H4]
    · iexists _; isplitr; · ipureintro; exact harg4.read_unread _
      iexact H4
    isplitl [H5]
    · iexists _; isplitr; · ipureintro; exact harg5.read_unread _
      iexact H5
    isplitl [H15]
    · iexists _, _; isplitr; swap; · iexact H15
      ipureintro; rfl
    iexists _, _, _, _, _; isplitr; swap
    · isplitl [H10]
      · iexists _; isplitr; swap; · iexact H10
        ipureintro; rfl
      isplitl [H11]
      · iexists _; isplitr; swap; · iexact H11
        ipureintro; rfl
      isplitl [H12]
      · iexists _; isplitr; swap; · iexact H12
        ipureintro; rfl
      isplitl [H13]
      · iexists _; isplitr; swap; · iexact H13
        ipureintro; rfl
      iexists _; isplitr; swap; · iexact H14
      ipureintro; rfl
    ipureintro
    delta whole.sl.H11_1
    rw [View.read_writes_full, View.read_writes_full]
    simp only [slotW_read, slotS_read, load_hit]
    unfold Starts at h0
    dsimp only at h0 ⊢
    rw [es, hv]
    exact h0
  iintro %r %j' %hr ⟨⟨%f4, %hf4, H4⟩, ⟨%f5, %hf5, H5⟩, ⟨%d15, %f15, -, H15⟩, %a, %m, %al, %mt', %s, %hIj, ⟨%f10, %hf10, H10⟩, ⟨%f11, %hf11, H11⟩, ⟨%f12, %hf12, H12⟩, ⟨%f13, %hf13, H13⟩, ⟨%f14, %hf14, H14⟩⟩
  obtain rfl := harg4.eq_unread hf4; obtain rfl := harg5.eq_unread hf5
  obtain rfl := harg10.eq_unread hf10; obtain rfl := harg11.eq_unread hf11; obtain rfl := harg12.eq_unread hf12
  obtain rfl := harg13.eq_unread hf13; obtain rfl := harg14.eq_unread hf14
  obtain ⟨rj, r2, r3⟩ := r
  obtain ⟨hj, hrj, hmore⟩ := hr
  obtain rfl : rj = ctr j' := hrj
  have h3 := chk3_of i j' hj
  have h4 := chk4_of i j' hj
  have em := load_whole harg11 m inb_S1024x128_S1024x128_0_0
  have ea := load_whole harg10 a inb_S1024x256_S1024x256_0_0
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap
    · iexists _; isplitr; swap; · iexact H9
      ipureintro; rfl
    ipureintro
    rw [View.read_writes_full]
    have hd := he j' a m _ _ _ hj hmore hIj
    have ew := load_weight harg6 x6 (Shape.Idx.first (numel1_S1x1.symm ▸ Nat.one_pos))
    delta whole.sl.v150 whole.sl.r_6 whole.sl.r_7 whole.sl.v149
    by_cases hc : k0_cond2 i (ctr j') (whole.sl.v127 i x7 j' m) (whole.sl.v130 c i arg15 x3 x7 j' f15 m h3)
                    (whole.sl.v136 i x7 j' m) (whole.sl.v139 c i arg15 x3 x7 j' f15 m h3) = 1#1
    · have hq : (i 2).val < 16 := (i 2).isLt
      have hc' := mt (cond3_iff i j' hj _ _ _ _).1 (not_not.2 hc)
      simp only [dif_pos hc, dif_neg hc']
      delta whole.sl.r_4 whole.sl.r_5 whole.sl.v249 whole.sl.v251 whole.sl.v256
      delta whole.sl.v245 whole.sl.v247 whole.sl.H14_1 whole.sl.H13_1 whole.sl.H12_1 whole.sl.H10_1
      delta whole.sl.v191 whole.sl.v219 whole.sl.v221 whole.sl.v223 whole.sl.v225
      have hj1 := ((cond2_iff i j' hj _ _ _ _).1 hc).1
      obtain ⟨o1, o2⟩ := off12_of i j' hj1
      have t51 := load_tile harg5 x5 _ (by omega) o1 (k0_off12_inb i (ctr j') _ _ _ _ (h4 _ _ _ _) hc)
      have t50 := load_tile harg5 x5 _ (by omega) o2 (k0_off13_inb i (ctr j') _ _ _ _ (h4 _ _ _ _) hc)
      have t41 := load_tile harg4 x4 _ (by omega) o1 (k0_off12_inb i (ctr j') _ _ _ _ (h4 _ _ _ _) hc)
      simp only [upper_read, lower_read, cov_hit, t51, t50, t41, slotW_unread, slotS_unread, ew]
      exact (hd _ _).1 hc
    · have hq : (i 2).val < 16 := (i 2).isLt
      have hc' := (cond3_iff i j' hj _ _ _ _).2 hc
      simp only [dif_neg hc, dif_pos hc']
      delta whole.sl.v183 whole.sl.v185 whole.sl.v187 whole.sl.v189 whole.sl.v194
      simp only [dif_neg hc]
      have t50 := load_tile harg5 x5 _ (by omega) (off14_of i j' hj) (k0_off14_inb i (ctr j') _ _ _ _ (h4 _ _ _ _) hc')
      simp only [upper_read, lower_read, t50, ea, slotW_unread, slotS_unread, ew]
      exact (hd _ _).2 hc
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Whole

end Cert.Proof.KI

end
-- ==== Proof.KI.Frame.lean ====
/- The attention kernel's frame: the arrays its windows stage are left as they were, whatever its output holds, and every
   semaphore ends at zero. -/
module

public import proofs.«01_k».proof.Proof.KI.Body
public import proofs.«01_k».proof.Proof.Gen.KernelIdeal.Launch
public import proofs.«01_k».proof.Proof.Gen.KernelIdeal.Points
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A core's buffers when the pipeline starts: the host's prefix has run. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ Variants.nat m (main (F := F)) (V m) :=
  Pipeline.hmain_prefix cfgs 0 defs₀ Variants.nat m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, Finset.mem_singleton]
    repeat' apply And.intro
    all_goals exact StableHlo.devRef_ne_of_ne (by decide)))

/-- What window `w` shows at grid point `t`. -/
def shown (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's data, the output's contents after each grid point as a parameter. -/
def data (out : Dev nD → Fin (cfg0 (F := F)).N → Vec F S1x512x128 .f32) (_ : Fin 1) (c : Dev nD) : Dat τ (Elt F) Unit ℕ (UR sig nD τ) ℕ (cfg0 (F := F)) c where
  A w := V m c (Pipeline.arrRef spec0 w)
  after w t := match w with
    | ⟨0, _⟩ => shown m c 0 t
    | ⟨1, _⟩ => shown m c 1 t
    | ⟨2, _⟩ => shown m c 2 t
    | ⟨3, _⟩ => shown m c 3 t
    | ⟨4, _⟩ => shown m c 4 t
    | ⟨5, _⟩ => shown m c 5 t
    | ⟨6, _⟩ => out c t
  Φ _ := Pipeline.ΦA spec0 c
  q w := Pipeline.shareOf spec0 w
  owed _ := 0

variable (out : Dev nD → Fin (cfg0 (F := F)).N → Vec F S1x512x128 .f32)

theorem data_A (c : Dev nD) (w : Fin (cfg0 (F := F)).W) : (data m out 0 c).A w = V m c (Pipeline.arrRef spec0 w) := by dsimp only [data]
theorem after_0 (c : Dev nD) (t : Fin (cfg0 (F := F)).N) : (data m out 0 c).after 0 t = shown m c 0 t := rfl
theorem before_0 (c : Dev nD) (t : Fin (cfg0 (F := F)).N) (d) : (data m out 0 c).before 0 t d = shown m c 0 t :=
  ((data m out 0 c).before_in_eq_fetched 0 rfl (fun _ => rfl) (fun _ _ _ => rfl)
    (fun t => by rw [after_0]; unfold Dat.blockOf shown; rw [data_A]; try rfl) t d).trans
    (by unfold Dat.fetched Dat.blockOf shown; rw [data_A]; try rfl)
theorem after_1 (c : Dev nD) (t : Fin (cfg0 (F := F)).N) : (data m out 0 c).after 1 t = shown m c 1 t := rfl
theorem before_1 (c : Dev nD) (t : Fin (cfg0 (F := F)).N) (d) : (data m out 0 c).before 1 t d = shown m c 1 t :=
  ((data m out 0 c).before_in_eq_fetched 1 rfl (fun _ => rfl) (fun _ _ _ => rfl)
    (fun t => by rw [after_1]; unfold Dat.blockOf shown; rw [data_A]; try rfl) t d).trans
    (by unfold Dat.fetched Dat.blockOf shown; rw [data_A]; try rfl)
theorem after_2 (c : Dev nD) (t : Fin (cfg0 (F := F)).N) : (data m out 0 c).after 2 t = shown m c 2 t := rfl
theorem before_2 (c : Dev nD) (t : Fin (cfg0 (F := F)).N) (d) : (data m out 0 c).before 2 t d = shown m c 2 t :=
  ((data m out 0 c).before_in_eq_fetched 2 rfl (fun _ => rfl) (fun _ _ _ => rfl)
    (fun t => by rw [after_2]; unfold Dat.blockOf shown; rw [data_A]; try rfl) t d).trans
    (by unfold Dat.fetched Dat.blockOf shown; rw [data_A]; try rfl)
theorem after_3 (c : Dev nD) (t : Fin (cfg0 (F := F)).N) : (data m out 0 c).after 3 t = shown m c 3 t := rfl
theorem before_3 (c : Dev nD) (t : Fin (cfg0 (F := F)).N) (d) : (data m out 0 c).before 3 t d = shown m c 3 t :=
  ((data m out 0 c).before_in_eq_fetched 3 rfl (fun _ => rfl) (fun _ _ _ => rfl)
    (fun t => by rw [after_3]; unfold Dat.blockOf shown; rw [data_A]; try rfl) t d).trans
    (by unfold Dat.fetched Dat.blockOf shown; rw [data_A]; try rfl)
theorem after_4 (c : Dev nD) (t : Fin (cfg0 (F := F)).N) : (data m out 0 c).after 4 t = shown m c 4 t := rfl
theorem before_4 (c : Dev nD) (t : Fin (cfg0 (F := F)).N) (d) : (data m out 0 c).before 4 t d = shown m c 4 t :=
  ((data m out 0 c).before_in_eq_fetched 4 rfl (fun _ => rfl) (fun _ _ _ => rfl)
    (fun t => by rw [after_4]; unfold Dat.blockOf shown; rw [data_A]; try rfl) t d).trans
    (by unfold Dat.fetched Dat.blockOf shown; rw [data_A]; try rfl)
theorem after_5 (c : Dev nD) (t : Fin (cfg0 (F := F)).N) : (data m out 0 c).after 5 t = shown m c 5 t := rfl
theorem before_5 (c : Dev nD) (t : Fin (cfg0 (F := F)).N) (d) : (data m out 0 c).before 5 t d = shown m c 5 t :=
  ((data m out 0 c).before_in_eq_fetched 5 rfl (fun _ => rfl) (fun _ _ _ => rfl)
    (fun t => by rw [after_5]; unfold Dat.blockOf shown; rw [data_A]; try rfl) t d).trans
    (by unfold Dat.fetched Dat.blockOf shown; rw [data_A]; try rfl)
theorem after_6 (c : Dev nD) (t : Fin (cfg0 (F := F)).N) : (data m out 0 c).after 6 t = out c t := rfl

abbrev st0 (t : Fin (cfg0 (F := F)).N) : Memref sig .tc .vmem S1x512x128 .bf16 := win0_0.stage ((cfg0 (F := F)).slots t 0)
theorem whole0 (t : Fin (cfg0 (F := F)).N) : (st0 t).IsWhole := hstage0_0 (((cfg0 (F := F)).slots t 0).cast nbuf0_0)
abbrev st1 (t : Fin (cfg0 (F := F)).N) : Memref sig .tc .vmem S1x8192x128 .bf16 := win0_1.stage ((cfg0 (F := F)).slots t 1)
theorem whole1 (t : Fin (cfg0 (F := F)).N) : (st1 t).IsWhole := hstage0_1 (((cfg0 (F := F)).slots t 1).cast nbuf0_1)
abbrev st2 (t : Fin (cfg0 (F := F)).N) : Memref sig .tc .vmem S1x8192x128 .bf16 := win0_2.stage ((cfg0 (F := F)).slots t 2)
theorem whole2 (t : Fin (cfg0 (F := F)).N) : (st2 t).IsWhole := hstage0_2 (((cfg0 (F := F)).slots t 2).cast nbuf0_2)
abbrev st3 (t : Fin (cfg0 (F := F)).N) : Memref sig .tc .smem S1x1 .f32 := win0_3.stage ((cfg0 (F := F)).slots t 3)
theorem whole3 (t : Fin (cfg0 (F := F)).N) : (st3 t).IsWhole := hstage0_3 (((cfg0 (F := F)).slots t 3).cast nbuf0_3)
abbrev st4 (t : Fin (cfg0 (F := F)).N) : Memref sig .tc .smem S4 .f32 := win0_4.stage ((cfg0 (F := F)).slots t 4)
theorem whole4 (t : Fin (cfg0 (F := F)).N) : (st4 t).IsWhole := hstage0_4 (((cfg0 (F := F)).slots t 4).cast nbuf0_4)
abbrev st5 (t : Fin (cfg0 (F := F)).N) : Memref sig .tc .vmem S1x128 .f32 := win0_5.stage ((cfg0 (F := F)).slots t 5)
theorem whole5 (t : Fin (cfg0 (F := F)).N) : (st5 t).IsWhole := hstage0_5 (((cfg0 (F := F)).slots t 5).cast nbuf0_5)
abbrev st6 (t : Fin (cfg0 (F := F)).N) : Memref sig .tc .vmem S1x512x128 .f32 := win0_6.stage ((cfg0 (F := F)).slots t 6)
theorem whole6 (t : Fin (cfg0 (F := F)).N) : (st6 t).IsWhole := hstage0_6 (((cfg0 (F := F)).slots t 6).cast nbuf0_6)
abbrev sc0 : Memref sig .tc .vmem S1024x256 .f32 := Memref.whole cc0_scratch0
abbrev sc1 : Memref sig .tc .vmem S1024x128 .f32 := Memref.whole cc0_scratch1
abbrev sc2 : Memref sig .tc .vmem S2x1024x128 .f32 := Memref.whole cc0_scratch2
abbrev sc3 : Memref sig .tc .vmem S2x1024x128 .f32 := Memref.whole cc0_scratch3
abbrev sc4 : Memref sig .tc .vmem S2x1024x512 .f32 := Memref.whole cc0_scratch4
abbrev sc5 : Memref sig .tc .smem S2x16 .f32 := Memref.whole cc0_scratch5

/-- What the kernel's own buffers are to the pipeline: held at some contents, the generator's register beside them. -/
theorem own_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- What a grid point starts from, -/
def before (c : Dev nD) (t : Fin (cfg0 (F := F)).N) : sProp 𝕄 :=
  iprop((data m out 0 c).Φ t.castSucc ∗ (data m out 0 c).owesAt () t.castSucc
    ∗ (∃ d, owns (c : Thread nD τ) (st0 t) fullShare ((data m out 0 c).before 0 t d))
    ∗ (∃ d, owns (c : Thread nD τ) (st1 t) fullShare ((data m out 0 c).before 1 t d))
    ∗ (∃ d, owns (c : Thread nD τ) (st2 t) fullShare ((data m out 0 c).before 2 t d))
    ∗ (∃ d, owns (c : Thread nD τ) (st3 t) fullShare ((data m out 0 c).before 3 t d))
    ∗ (∃ d, owns (c : Thread nD τ) (st4 t) fullShare ((data m out 0 c).before 4 t d))
    ∗ (∃ d, owns (c : Thread nD τ) (st5 t) fullShare ((data m out 0 c).before 5 t d))
    ∗ (∃ d, owns (c : Thread nD τ) (st6 t) fullShare d))

/-- and what it leaves, its output with the property `O`. -/
def left (O : FVec F S1x512x128 .f32 → Prop) (c : Dev nD) (t : Fin (cfg0 (F := F)).N) : sProp 𝕄 :=
  iprop((data m out 0 c).Φ t.succ ∗ (data m out 0 c).owesAt () t.succ
    ∗ owns (c : Thread nD τ) (st0 t) fullShare ((data m out 0 c).after 0 t)
    ∗ owns (c : Thread nD τ) (st1 t) fullShare ((data m out 0 c).after 1 t)
    ∗ owns (c : Thread nD τ) (st2 t) fullShare ((data m out 0 c).after 2 t)
    ∗ owns (c : Thread nD τ) (st3 t) fullShare ((data m out 0 c).after 3 t)
    ∗ owns (c : Thread nD τ) (st4 t) fullShare ((data m out 0 c).after 4 t)
    ∗ owns (c : Thread nD τ) (st5 t) fullShare ((data m out 0 c).after 5 t)
    ∗ (∃ d, ⌜O d⌝ ∗ owns (c : Thread nD τ) (st6 t) fullShare d))

/-- The reasons why a grid point's output has the property `O`: something true where the walk starts, kept by it, and
    giving `O` where it ends. -/
def Because (O : FVec F S1x512x128 .f32 → Prop) (c : Dev nD) (t : Fin (cfg0 (F := F)).N) : Prop :=
  ∃ I, Starts (grid0.coords t) I (k0_pay19 (shown m c 0 t)) (k0_pay20 (slopeAt (grid0.coords t) (shown m c 4 t))) (iota .tc S1x512 32 [1] iota_S1x512_d1_w32) (shown m c 1 t)
    ∧ Steps (grid0.coords t) (k0_pay20 (slopeAt (grid0.coords t) (shown m c 4 t))) (iota .tc S1x512 32 [1] iota_S1x512_d1_w32) (k0_pay19 (shown m c 0 t)) k0_pay21 (shown m c 1 t) (shown m c 2 t) I
    ∧ Ends (grid0.coords t) I O (k0_pay19 (shown m c 0 t)) (k0_pay20 (slopeAt (grid0.coords t) (shown m c 4 t))) (iota .tc S1x512 32 [1] iota_S1x512_d1_w32) k0_pay21 (shown m c 1 t) (shown m c 2 t) (weight (shown m c 3 t)) (shown m c 5 t)

set_option maxHeartbeats 1200000 in
theorem point (c : Dev nD) (t : Fin (cfg0 (F := F)).N) (O : FVec F S1x512x128 .f32 → Prop) (h : Because m O c t) :
    before m out c t ⊢ wp frame (wpE (defs₀ (F := F)) Variants.nat c none) Set.univ (bodyAt0 t) (fun _ => left m out O c t) := by
  obtain ⟨I, h0, hs, he⟩ := h
  unfold before left bodyAt0
  simp only [before_0, before_1, before_2, before_3, before_4, before_5]
  rw [show (data m out 0 c).Φ t.succ = (data m out 0 c).Φ t.castSucc from rfl,
    show (data m out 0 c).owesAt () t.succ = (data m out 0 c).owesAt () t.castSucc from rfl,
    after_0, after_1, after_2, after_3, after_4, after_5]
  rw [show (data m out 0 c).Φ t.castSucc = Pipeline.ΦA spec0 c from rfl, own_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply (whole c (grid0.coords t) _ (whole0 t) _ (whole1 t) _ (whole2 t) _ (whole3 t) _ (whole4 t) _ (whole5 t) _ (whole6 t) _ _ _ _ _ _ _ _ _ _ _ _ I Set.univ
    (shown m c 0 t) (shown m c 1 t) (shown m c 2 t) (shown m c 3 t) (shown m c 4 t) (shown m c 5 t) O h0 hs he _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row (t : Fin (cfg0 (F := F)).N) : defs₀ (F := F) .tc (cfg0 (F := F)).body ((cfg0 (F := F)).bodyArgs t ((cfg0 (F := F)).slots t)) = bodyAt0 t := by
  unfold defs₀; rw [Defs.onTc_tc]

/-! ### The frame: nothing said of the output -/

/-- The one window nothing is said of: the output. -/
def unsaid : Fin 7 → Bool := fun w => w.val == 6
/-- Any output there is. -/
def anyOut : Dev nD → Fin (cfg0 (F := F)).N → Vec F S1x512x128 .f32 := fun _ t => Pipeline.Dat.unnamed (cfg := cfg0 (F := F)) 6 t

/-- Of every output something holds. -/
theorem because_any (c : Dev nD) (t : Fin (cfg0 (F := F)).N) : Because m (fun _ => True) c t :=
  ⟨fun _ _ _ _ _ _ => True, trivial, fun _ _ _ _ _ _ _ _ => trivial, fun _ _ _ _ _ _ _ _ _ _ _ => ⟨fun _ => trivial, fun _ => trivial⟩⟩

/-- The grid point's triple with the output at some contents. -/
theorem point_any (c : Dev nD) (t : Fin (cfg0 (F := F)).N) :
    before m out c t ⊢ wp frame (wpE (defs₀ (F := F)) Variants.nat c none) Set.univ (bodyAt0 t) (fun _ =>
      iprop((data m out 0 c).Φ t.succ ∗ (data m out 0 c).owesAt () t.succ
    ∗ owns (c : Thread nD τ) (st0 t) fullShare ((data m out 0 c).after 0 t)
    ∗ owns (c : Thread nD τ) (st1 t) fullShare ((data m out 0 c).after 1 t)
    ∗ owns (c : Thread nD τ) (st2 t) fullShare ((data m out 0 c).after 2 t)
    ∗ owns (c : Thread nD τ) (st3 t) fullShare ((data m out 0 c).after 3 t)
    ∗ owns (c : Thread nD τ) (st4 t) fullShare ((data m out 0 c).after 4 t)
    ∗ owns (c : Thread nD τ) (st5 t) fullShare ((data m out 0 c).after 5 t)
    ∗ (∃ d, owns (c : Thread nD τ) (st6 t) fullShare d))) := by
  refine (point m out c t (fun _ => True) (because_any m c t)).trans (wp_mono _ _ _ fun _ => ?_)
  unfold left
  iintro ⟨HP, Ho, H0, H1, H2, H3, H4, H5, %d, -, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

theorem obligation (c : Dev nD) : BodyObligation (data (F := F) m anyOut 0 c) (defs₀ (F := F)) Variants.nat () Set.univ unsaid := fun t => by
  rw [bigSep_W0, bigSep_W0, row]
  exact triple_restated (point_any m anyOut c t) rfl .rfl fun _ => .rfl

set_option backward.isDefEq.respectTransparency.types false in
theorem run_any : θ_run defs (onTc (τ := τ) (main (F := F))) (s₀ m ρ)
    (fun r => (Pipeline.RDat.FramePost (cfgs 0) (fun c => (data m anyOut 0 c).toRForget unsaid) (V m)) r ∧ r.2.sem = fun _ => 0) :=
  Pipeline.θ_run_frame_forget_shared (Q' := _) cfgs (data m anyOut) (0 : Fin 1) launch₀0 defs₀ Variants.nat unsaid m ρ main
    (hbody := fun c => (obligation m c).loose) (hq := fun _ _ _ => rfl)
    (howed := fun _ _ => rfl) (V := V m) (hmain := hmain m) (hA := data_A m anyOut) (hΦ := fun _ _ => rfl)

/-- The frame at any values: the arguments are left as they were, and every semaphore ends at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (show ∀ w : Fin 7, (spec0 w).arr.view.ref ≠ main_arg0 by decide))).trans (V_arg0 m c),
      (Pipeline.RDat.FramePost.arr_in h.1 c 3 rfl).trans ((data_A m anyOut c 3).trans (V_arg1 m c)),
      (Pipeline.RDat.FramePost.arr_in h.1 c 5 rfl).trans ((data_A m anyOut c 5).trans (V_arg2 m c))⟩, h.2⟩) (run_any m ρ)

end Cert.Proof.KI

end
-- ==== Proof.KI.Score.lean ====
/- The attention kernel's pieces at real numbers: a tile's scores, their running maximum, and the weighted sums. -/
module

public import proofs.«01_k».proof.Proof.KI.Body
public import Idealize.ShloMosaic.Lib.Pointwise

@[expose] public section

set_option maxRecDepth 16384

noncomputable section

namespace Cert.Proof.KI

open Cert.KernelIdeal Cert.KernelIdeal.Gen
open Idealize.ShloMosaic Idealize.ShloMosaic.TcCoe
open scoped BigOperators

/-- The reals one query tile's attention is computed of: its scaled queries (two halves stacked), the keys and values of
    its head by position, and the slope of the head's distance penalty. -/
structure Reals where
  qi : ℕ
  hqi : qi < 16
  Q : Fin 1024 → Fin 128 → ℝ
  K : ℕ → Fin 128 → ℝ
  V : ℕ → Fin 128 → ℝ
  σ : ℝ

namespace Reals
variable (D : Reals)

/-- The score of row `r` against the key at position `n`, up to a constant of the row. -/
def score (r : Fin 1024) (n : ℕ) : ℝ := (∑ d : Fin 128, D.Q r d * D.K n d) + ((n : ℝ) - 512 * D.qi) * D.σ
/-- Row `r` attends to the key at position `n`. -/
def Seen (r : Fin 1024) (n : ℕ) : Prop := n ≤ 512 * D.qi + r.val % 512
open Classical in
/-- The score where the key is attended to, else `−∞`. -/
def masked (r : Fin 1024) (n : ℕ) : EReal := if D.Seen r n then ((D.score r n : ℝ) : EReal) else ⊥
open Classical in
/-- The weight of the key at position `n` in row `r`, relative to the maximum `M`. -/
def wt (M : Fin 1024 → ℝ) (r : Fin 1024) (n : ℕ) : ℝ := if D.Seen r n then (2 : ℝ) ^ (D.score r n - M r) else 0
/-- What is summed under the weights: the values, then ones. -/
def col (n : ℕ) (c : Fin 256) : ℝ := if h : c.val < 128 then D.V n ⟨c.val, h⟩ else 1
/-- The weighted sum over the positions from `512 t` to the end of the query tile. -/
def sum (M : Fin 1024 → ℝ) (t : ℕ) (r : Fin 1024) (c : Fin 256) : ℝ :=
  ∑ n ∈ Finset.Ico (512 * t) (512 * (D.qi + 1)), D.wt M r n * D.col n c

theorem exp2_masked (M : Fin 1024 → ℝ) (r : Fin 1024) (n : ℕ) :
    Ideal.exp2 (D.masked r n - ((M r : ℝ) : EReal)) = ((D.wt M r n : ℝ) : EReal) := by
  unfold masked wt
  split_ifs with h
  · rw [← EReal.coe_sub, Ideal.exp2_coe]; rfl
  · rw [EReal.bot_sub, Ideal.exp2_bot]; rfl

theorem masked_ne_top (r : Fin 1024) (n : ℕ) : D.masked r n ≠ ⊤ := by
  unfold masked; split_ifs
  · exact EReal.coe_ne_top _
  · exact bot_ne_top

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A tile's sums, added to those after it. -/
theorem sum_tile (M : Fin 1024 → ℝ) {t : ℕ} (ht : t ≤ D.qi) (r : Fin 1024) (c : Fin 256) :
    D.sum M (t + 1) r c + ∑ x : Fin 512, D.wt M r (512 * t + x.val) * D.col (512 * t + x.val) c = D.sum M t r c := by
  unfold sum
  have h : ∑ n ∈ Finset.Ico (512 * t) (512 * (t + 1)), D.wt M r n * D.col n c
      = ∑ x : Fin 512, D.wt M r (512 * t + x.val) * D.col (512 * t + x.val) c := by
    rw [Finset.sum_Ico_eq_sum_range, show 512 * (t + 1) - 512 * t = 512 by omega, Finset.sum_range]
  rw [← h, add_comm, Finset.sum_Ico_consecutive _ (show 512 * t ≤ 512 * (t + 1) by omega)
    (show 512 * (t + 1) ≤ 512 * (D.qi + 1) by omega)]

/-- The sums relative to another maximum. -/
theorem sum_shift (M M' : Fin 1024 → ℝ) (t : ℕ) (r : Fin 1024) (c : Fin 256) :
    D.sum M t r c * (2 : ℝ) ^ (M r - M' r) = D.sum M' t r c := by
  unfold sum
  rw [Finset.sum_mul]
  refine Finset.sum_congr rfl fun n _ => ?_
  unfold wt
  split_ifs
  · rw [mul_right_comm, ← Real.rpow_add (by norm_num)]; congr 2; ring
  · simp

theorem sum_empty (M : Fin 1024 → ℝ) (r : Fin 1024) (c : Fin 256) : D.sum M (D.qi + 1) r c = 0 := by
  unfold sum; simp

end Reals

/-- The maximum of a real, or of scores one of which is real, is real. -/
theorem max_real (a : EReal) (f : Fin 512 → EReal) (ha : a ≠ ⊤) (hf : ∀ k, f k ≠ ⊤) (h : a ≠ ⊥ ∨ ∃ k, f k ≠ ⊥) :
    ∃ M : ℝ, max a (Finset.univ.fold max ⊥ f) = ((M : ℝ) : EReal) := by
  have h1 : Finset.univ.fold max ⊥ f ≠ ⊤ :=
    ((Finset.fold_max_lt (s := Finset.univ) (f := f) (b := (⊥ : EReal)) ⊤).mpr ⟨bot_lt_top, fun k _ => (hf k).lt_top⟩).ne
  have h2 : max a (Finset.univ.fold max ⊥ f) ≠ ⊥ := by
    rcases h with h | ⟨k, hk⟩
    · exact fun e => h (le_bot_iff.mp (e ▸ le_max_left _ _))
    · have := (Finset.fold_max_le (s := Finset.univ) (f := f) (b := (⊥ : EReal)) (Finset.univ.fold max ⊥ f)).mp le_rfl
      exact fun e => hk (le_bot_iff.mp (e ▸ (this.2 k (Finset.mem_univ k)).trans (le_max_right _ _)))
  have h3 : max a (Finset.univ.fold max ⊥ f) ≠ ⊤ := by
    rcases max_choice a (Finset.univ.fold max ⊥ f) with e | e <;> rw [e]
    · exact ha
    · exact h1
  exact ⟨_, (EReal.coe_toReal h3 h2).symm⟩

end Cert.Proof.KI

end
-- ==== Proof.KI.Maxima.lean ====
/- The running maxima read at a lane. -/
module

public import proofs.«01_k».proof.Proof.KI.Body
public import Idealize.ShloMosaic.Lib.Pointwise

@[expose] public section

set_option maxRecDepth 16384

noncomputable section

namespace Cert.Proof.KI

open Cert.KernelIdeal Cert.KernelIdeal.Gen
open Idealize.ShloMosaic Idealize.ShloMosaic.TcCoe
open scoped BigOperators

theorem neg_inf : Ideal.ofBits .f32 0xFF800000#32 = ⊥ := by simp [Ideal.ofBits, Ideal.ieee]

theorem max32 (q : BitVec 32) (v16 : FVec Ideal S1024x128 .bf16) (σ : Ideal .f32) (w : IVec S1x512 32) (k : Vec Ideal S1x512x128 .bf16) (m : Vec Ideal S1024x128 .f32) (r l) :
    k0_pay32 q v16 σ w k m (ix2 r l) = max (m (ix2 r l)) (Finset.univ.fold max ⊥ fun x => k0_pay31 q v16 σ w k (ix2 r x)) := by
  pointwise [k0_pay32]; rw [neg_inf]
theorem max54 (q c : BitVec 32) (v16 : FVec Ideal S1024x128 .bf16) (σ : Ideal .f32) (w : IVec S1x512 32) (k : Vec Ideal S1x512x128 .bf16) (m : Vec Ideal S1024x128 .f32) (r l) :
    k0_pay54 σ w v16 c q k m (ix2 r l) = max (m (ix2 r l)) (Finset.univ.fold max ⊥ fun x => k0_pay53 σ w v16 c q k (ix2 r x)) := by
  pointwise [k0_pay54]; rw [neg_inf]
theorem max61 (q c : BitVec 32) (v16 : FVec Ideal S1024x128 .bf16) (σ : Ideal .f32) (w : IVec S1x512 32) (k : Vec Ideal S1x512x128 .bf16) (m : Vec Ideal S1024x128 .f32) (r l) :
    k0_pay61 σ w v16 q c k m (ix2 r l) = max (m (ix2 r l)) (Finset.univ.fold max ⊥ fun x => k0_pay60 σ w v16 q c k (ix2 r x)) := by
  pointwise [k0_pay61]; rw [neg_inf]
theorem max11 (q c : BitVec 32) (v16 : FVec Ideal S1024x128 .bf16) (σ : Ideal .f32) (w : IVec S1x512 32) (k : Vec Ideal S1x512x128 .bf16) (m : Vec Ideal S1024x128 .f32) (r l) :
    k0_pay11 q v16 σ w c k m (ix2 r l) = max (m (ix2 r l)) (Finset.univ.fold max ⊥ fun x => k0_pay10 q v16 σ w c k (ix2 r x)) := by
  pointwise [k0_pay11]; rw [neg_inf]

end Cert.Proof.KI

end
-- ==== Proof.KI.Online.lean ====
/- The walk over the key tiles at the ideal values: what its buffers hold at the head of each turn, and what they hold
   where it ends. -/
module

public import proofs.«01_k».proof.Proof.KI.Score
public import proofs.«01_k».proof.Proof.KI.Maxima

@[expose] public section

set_option maxRecDepth 16384

noncomputable section

namespace Cert.Proof.KI

open Cert.KernelIdeal Cert.KernelIdeal.Gen
open Idealize.ShloMosaic Idealize.ShloMosaic.TcCoe
open scoped BigOperators

variable (D : Reals)

/-- The word of the query tile. -/
abbrev qw : BitVec 32 := BitVec.ofNat 32 D.qi
/-- The columns' numbers. -/
abbrev lanes : IVec S1x512 32 := iota .tc S1x512 32 [1] iota_S1x512_d1_w32

/-- The stacked scaled queries are the reals `Q`. -/
def IsQ (v16 : FVec Ideal S1024x128 .bf16) : Prop := ∀ r d, v16 (ix2 r d) = ((D.Q r d : ℝ) : EReal)
/-- A block holds the keys of tile `t`. -/
def IsK (t : ℕ) (k : Vec Ideal S1x512x128 .bf16) : Prop := ∀ x d, k (ix3 0 x d) = ((D.K (512 * t + x.val) d : ℝ) : EReal)
/-- A block holds the values of tile `t`. -/
def IsV (t : ℕ) (v : Vec Ideal S1x512x128 .bf16) : Prop := ∀ x d, v (ix3 0 x d) = ((D.V (512 * t + x.val) d : ℝ) : EReal)
/-- A matrix holds the scores of tile `t`. -/
def IsScore (t : ℕ) (s : FVec Ideal S1024x512 .f32) : Prop := ∀ r x, s (ix2 r x) = D.masked r (512 * t + x.val)
/-- The same, of one slot. -/
def IsScore1 (t : ℕ) (s : Vec Ideal S1x1024x512 .f32) : Prop := ∀ r x, s (ix3 0 r x) = D.masked r (512 * t + x.val)
/-- Every lane of a row holds the row's real. -/
def IsRow (M : Fin 1024 → ℝ) (m : Vec Ideal S1024x128 .f32) : Prop := ∀ r l, m (ix2 r l) = ((M r : ℝ) : EReal)
/-- The same, of one slot. -/
def IsRow1 (M : Fin 1024 → ℝ) (m : Vec Ideal S1x1024x128 .f32) : Prop := ∀ r l, m (ix3 0 r l) = ((M r : ℝ) : EReal)
/-- The accumulator holds the weighted sums from tile `t` on. -/
def IsSum (M : Fin 1024 → ℝ) (t : ℕ) (a : Vec Ideal S1024x256 .f32) : Prop := ∀ r c, a (ix2 r c) = ((D.sum M t r c : ℝ) : EReal)
/-- The accumulator rescaled holds the weighted sums from tile `t` on. -/
def IsScaled (M : Fin 1024 → ℝ) (t : ℕ) (a : Vec Ideal S1024x256 .f32) (al : Vec Ideal S1x1024x128 .f32) : Prop :=
  ∀ r c l, a (ix2 r c) * al (ix3 0 r l) = ((D.sum M t r c : ℝ) : EReal)

/-- What the buffers hold before the turn that follows `j` tiles. -/
def Head (j : ℕ) (a : Vec Ideal S1024x256 .f32) (m : Vec Ideal S1024x128 .f32) (al mt : Vec Ideal S1x1024x128 .f32) (s : Vec Ideal S1x1024x512 .f32) : Prop :=
  j ≤ D.qi ∧ ∃ M, IsRow M m ∧ IsRow1 M mt ∧ IsScore1 D (D.qi - j) s ∧ IsScaled D M (D.qi - j + 1) a al

variable {D}

/-! ### Scores -/

theorem back_word : ∀ q j : Fin 16, ∀ n : Fin 3, Scalar.muli (Scalar.subi (Scalar.subi (Scalar.subi (BitVec.ofNat 32 q.val) (ctr j.val)) (BitVec.ofNat 32 n.val)) (BitVec.ofNat 32 q.val)) 512#32
    = BitVec.ofInt 32 (-(512 * (j.val + n.val : ℤ))) := by decide

theorem back_int (x b : ℕ) (hx : x < 512) (hb : b < 32) :
    (IntOp.addi (BitVec.ofNat 32 x) (BitVec.ofInt 32 (-(512 * (b : ℤ))))).toInt = (x : ℤ) - 512 * b := by
  show (BitVec.ofNat 32 x + BitVec.ofInt 32 (-(512 * (b : ℤ)))).toInt = _
  rw [← BitVec.ofInt_natCast, ← BitVec.ofInt_add, BitVec.toInt_ofInt]
  rw [Int.bmod_eq_of_le] <;> omega

theorem score_eq {v16 : FVec Ideal S1024x128 .bf16} (hQ : IsQ D v16) {k : Vec Ideal S1x512x128 .bf16} {b : ℕ} (hb : b ≤ D.qi) (hK : IsK D (D.qi - b) k)
    (r : Fin 1024) (x : Fin 512) :
    (∑ d, v16 (ix2 r d) * k (ix3 0 x d)) + (((((x : ℤ) - 512 * b : ℤ) : ℝ) : EReal)) * ((D.σ : ℝ) : EReal)
      = ((D.score r (512 * (D.qi - b) + x.val) : ℝ) : EReal) := by
  have h : ∀ d, v16 (ix2 r d) * k (ix3 0 x d) = ((D.Q r d * D.K (512 * (D.qi - b) + x.val) d : ℝ) : EReal) := fun d => by
    rw [hQ, hK, EReal.coe_mul]
  rw [Finset.sum_congr rfl fun d _ => h d, Reals.coe_sum, ← EReal.coe_mul, ← EReal.coe_add]
  unfold Reals.score
  congr 3
  push_cast [Nat.cast_sub hb]
  ring

theorem neg_big : (Named.named κ "neg_big" 0xF149F2CA#32 : Ideal .f32) = ⊥ := IdealRules.named_const.ideal_named_scalar _ _ _ _ rfl

theorem seen_low {b : ℕ} (h1 : 1 ≤ b) (hb : b ≤ D.qi) (r : Fin 1024) (x : Fin 512) : D.Seen r (512 * (D.qi - b) + x.val) := by
  unfold Reals.Seen; omega

theorem select_bit (c : BitVec 1) (x y : EReal) : Scalar.select c x y = if c = 1#1 then x else y := by
  revert c; intro c
  by_cases h : c = 1#1
  · subst h; rfl
  · have : c = 0#1 := by revert h; revert c; decide
    subst this; rfl

theorem seen_bit (r : Fin 1024) (x : Fin 512) :
    IntOp.cmpi CmpIPredicate.sle (BitVec.ofNat 32 x.val) (IntOp.andi (BitVec.ofNat 32 r.val) 511#32) = 1#1 ↔ x.val ≤ r.val % 512 := by
  have e : IntOp.andi (BitVec.ofNat 32 r.val) 511#32 = BitVec.ofNat 32 (r.val % 512) := by
    show BitVec.ofNat 32 r.val &&& 511#32 = _
    apply BitVec.eq_of_toNat_eq
    rw [BitVec.toNat_and, BitVec.toNat_ofNat, BitVec.toNat_ofNat, BitVec.toNat_ofNat,
      show 511 % 2 ^ 32 = 2 ^ 9 - 1 by norm_num, Nat.and_two_pow_sub_one_eq_mod]
    omega
  rw [e]
  have hx : (BitVec.ofNat 32 x.val).toInt = x.val := by
    rw [← BitVec.ofInt_natCast, BitVec.toInt_ofInt, Int.bmod_eq_of_le] <;> omega
  have hr : (BitVec.ofNat 32 (r.val % 512)).toInt = (r.val % 512 : ℕ) := by
    rw [← BitVec.ofInt_natCast, BitVec.toInt_ofInt, Int.bmod_eq_of_le] <;> omega
  show BitVec.ofBool (BitVec.sle _ _) = 1#1 ↔ _
  unfold BitVec.sle
  rw [hx, hr]
  by_cases h : x.val ≤ r.val % 512
  · rw [decide_eq_true (by omega)]; simp [h]
  · rw [decide_eq_false (by omega)]; simp [h]

theorem first_score {v16 : FVec Ideal S1024x128 .bf16} (hQ : IsQ D v16) {k : Vec Ideal S1x512x128 .bf16} (hK : IsK D D.qi k) :
    IsScore D D.qi (k0_pay31 (qw D) v16 ((D.σ : ℝ) : EReal) lanes k) := by
  intro r x
  pointwise [k0_pay31]
  have e : Scalar.muli (Scalar.subi (qw D) (qw D)) 512#32 = BitVec.ofInt 32 (-(512 * ((0 : ℕ) : ℤ))) := by
    show ((qw D) - (qw D)) * 512#32 = _
    rw [BitVec.sub_self]; rfl
  have h := score_eq hQ (b := 0) (Nat.zero_le _) hK r x
  have hi := back_int x.val 0 x.isLt (by omega)
  rw [select_bit, neg_big, e, show ∀ y : BitVec 32, (FloatOps.sitofp FTy.f32 y : Ideal .f32) = ((y.toInt : ℝ) : EReal) from fun _ => rfl, hi]
  unfold Reals.masked
  rw [Nat.sub_zero] at h
  have hs : (IntOp.cmpi CmpIPredicate.sle (BitVec.ofNat 32 x.val) (IntOp.andi (BitVec.ofNat 32 r.val) 511#32) = 1#1) ↔ D.Seen r (512 * D.qi + x.val) :=
    (seen_bit r x).trans (by unfold Reals.Seen; omega)
  by_cases hb : D.Seen r (512 * D.qi + x.val)
  · rw [if_pos (hs.mpr hb), if_pos hb]; exact h
  · rw [if_neg (fun e => hb (hs.mp e)), if_neg hb]

theorem walk_score {v16 : FVec Ideal S1024x128 .bf16} (hQ : IsQ D v16) {k : Vec Ideal S1x512x128 .bf16} {b : ℕ} (h1 : 1 ≤ b) (hb : b ≤ D.qi)
    (hK : IsK D (D.qi - b) k) (w : BitVec 32) (hw : w = BitVec.ofInt 32 (-(512 * (b : ℤ)))) (r : Fin 1024) (x : Fin 512) :
    (∑ d, v16 (ix2 r d) * k (ix3 0 x d)) + (FloatOps.sitofp FTy.f32 (IntOp.addi (BitVec.ofNat 32 x.val) w) : Ideal .f32) * ((D.σ : ℝ) : EReal)
      = D.masked r (512 * (D.qi - b) + x.val) := by
  rw [hw, show ∀ y : BitVec 32, (FloatOps.sitofp FTy.f32 y : Ideal .f32) = ((y.toInt : ℝ) : EReal) from fun _ => rfl,
    back_int x.val b x.isLt (by have := D.hqi; omega)]
  unfold Reals.masked
  rw [if_pos (seen_low h1 hb r x)]
  exact score_eq hQ hb hK r x

theorem word_back {j : ℕ} (n : Fin 3) (hj : j ≤ D.qi) :
    Scalar.muli (Scalar.subi (Scalar.subi (Scalar.subi (qw D) (ctr j)) (BitVec.ofNat 32 n.val)) (qw D)) 512#32
      = BitVec.ofInt 32 (-(512 * ((j + n.val : ℕ) : ℤ))) :=
  (back_word ⟨D.qi, D.hqi⟩ ⟨j, lt_of_le_of_lt hj D.hqi⟩ n).trans (by push_cast; rfl)

variable {v16 : FVec Ideal S1024x128 .bf16} (hQ : IsQ D v16) {k : Vec Ideal S1x512x128 .bf16} {j : ℕ}
include hQ

theorem next_score (hj : j + 1 ≤ D.qi) (hK : IsK D (D.qi - (j + 1)) k) :
    IsScore D (D.qi - (j + 1)) (k0_pay53 ((D.σ : ℝ) : EReal) lanes v16 (ctr j) (qw D) k) := by
  intro r x
  pointwise [k0_pay53]
  exact walk_score hQ (by omega) hj hK _ (word_back 1 (by omega)) r x

theorem next2_score (hj : j + 2 ≤ D.qi) (hK : IsK D (D.qi - (j + 2)) k) :
    IsScore D (D.qi - (j + 2)) (k0_pay60 ((D.σ : ℝ) : EReal) lanes v16 (qw D) (Scalar.subi (qw D) (ctr j)) k) := by
  intro r x
  pointwise [k0_pay60]
  exact walk_score hQ (by omega) hj hK _ (word_back 2 (by omega)) r x

theorem last_score (hj : j + 1 ≤ D.qi) (hK : IsK D (D.qi - (j + 1)) k) :
    IsScore D (D.qi - (j + 1)) (k0_pay10 (qw D) v16 ((D.σ : ℝ) : EReal) lanes (ctr j) k) := by
  intro r x
  pointwise [k0_pay10]
  exact walk_score hQ (by omega) hj hK _ (word_back 1 (by omega)) r x

omit hQ

/-! ### Maxima -/

/-- A matrix that holds, in every lane, the maximum of a lane of another and of the scores, where one of them is real. -/
theorem row_max {t : ℕ} {s : FVec Ideal S1024x512 .f32} (hs : IsScore D t s) {m m' : Vec Ideal S1024x128 .f32}
    (h : ∀ r l, m' (ix2 r l) = max (m (ix2 r l)) (Finset.univ.fold max ⊥ fun x => s (ix2 r x)))
    (a : Fin 1024 → EReal) (hm : ∀ r l, m (ix2 r l) = a r) (ha : ∀ r, a r ≠ ⊤) (hr : ∀ r, a r ≠ ⊥ ∨ ∃ x : Fin 512, D.masked r (512 * t + x.val) ≠ ⊥) :
    ∃ M, IsRow M m' := by
  have H : ∀ r, ∃ M : ℝ, max (a r) (Finset.univ.fold max ⊥ fun x => s (ix2 r x)) = ((M : ℝ) : EReal) := fun r =>
    max_real _ _ (ha r) (fun x => by rw [hs]; exact D.masked_ne_top _ _) ((hr r).imp_right fun ⟨x, hx⟩ => ⟨x, by rw [hs]; exact hx⟩)
  choose M hM using H
  exact ⟨M, fun r l => by rw [h, hm, hM]⟩

theorem row_max_of {t : ℕ} {s : FVec Ideal S1024x512 .f32} (hs : IsScore D t s) {m m' : Vec Ideal S1024x128 .f32}
    (h : ∀ r l, m' (ix2 r l) = max (m (ix2 r l)) (Finset.univ.fold max ⊥ fun x => s (ix2 r x)))
    {M : Fin 1024 → ℝ} (hm : IsRow M m) : ∃ M', IsRow M' m' :=
  row_max hs h (fun r => ((M r : ℝ) : EReal)) hm (fun _ => EReal.coe_ne_top _) fun _ => .inl (EReal.coe_ne_bot _)

/-! ### Rescaling -/

/-- Scaled by the power of two of the maxima's difference, sums are relative to the new maximum. -/
theorem scaled_of {M M' : Fin 1024 → ℝ} {t : ℕ} {a : Vec Ideal S1024x256 .f32} (ha : IsSum D M t a) {m m' : Vec Ideal S1024x128 .f32}
    (hm : IsRow M m) (hm' : IsRow M' m') {al : Vec Ideal S1x1024x128 .f32} (h : ∀ r l, al (ix3 0 r l) = Ideal.exp2 (m (ix2 r l) - m' (ix2 r l))) :
    IsScaled D M' t a al := fun r c l => by
  rw [ha, h, hm, hm', ← EReal.coe_sub, Ideal.exp2_coe, ← EReal.coe_mul]
  exact congrArg _ (D.sum_shift M M' t r c)

end Cert.Proof.KI

end
-- ==== Proof.KI.Sums.lean ====
/- The weighted sums the walk accumulates, tile by tile. -/
module

public import proofs.«01_k».proof.Proof.KI.Online

@[expose] public section

set_option maxRecDepth 16384

noncomputable section

namespace Cert.Proof.KI

open Cert.KernelIdeal Cert.KernelIdeal.Gen
open Idealize.ShloMosaic Idealize.ShloMosaic.TcCoe
open scoped BigOperators

variable {D : Reals}

/-! ### The weighted sums of a tile -/

theorem tile_sum {M : Fin 1024 → ℝ} {t : ℕ} (ht : t ≤ D.qi) {s : Vec Ideal S1x1024x512 .f32} (hs : IsScore1 D t s)
    (r : Fin 1024) (c : Fin 256) (A : EReal) (E g : Fin 512 → EReal) (hA : A = ((D.sum M (t + 1) r c : ℝ) : EReal))
    (hE : ∀ x, E x = ((M r : ℝ) : EReal)) (hg : ∀ x, g x = ((D.col (512 * t + x.val) c : ℝ) : EReal)) :
    (A + ∑ x, Ideal.exp2 (s (ix3 0 r x) - E x) * g x) = ((D.sum M t r c : ℝ) : EReal) := by
  rw [hA, ← D.sum_tile M ht r c, EReal.coe_add, ← Reals.coe_sum]
  congr 1
  refine Finset.sum_congr rfl fun x _ => ?_
  rw [hs, hE, hg, D.exp2_masked, EReal.coe_mul]

variable {M : Fin 1024 → ℝ} {t : ℕ} {s : Vec Ideal S1x1024x512 .f32} {v : Vec Ideal S1x512x128 .bf16}
  {a : Vec Ideal S1024x256 .f32} {al mt : Vec Ideal S1x1024x128 .f32}

theorem sum49 (ht : t ≤ D.qi) (hs : IsScore1 D t s) (hv : IsV D t v) (hm : IsRow1 M mt) (ha : IsScaled D M (t + 1) a al) :
    IsSum D M t (k0_pay49 k0_pay21 v al s mt a) := by
  intro r c
  pointwise [k0_pay49, k0_pay21]
  refine tile_sum ht hs r c _ _ _ ?_ (fun x => ?_) (fun x => ?_)
  · split_ifs <;> exact ha r c _
  · split_ifs <;> exact hm r _
  · unfold Reals.col
    by_cases h : c.val < 128
    · rw [dif_pos h, dif_pos h]; exact hv x _
    · rw [dif_neg h, dif_neg h]; rfl
theorem sum9 (ht : t ≤ D.qi) (hs : IsScore1 D t s) (hv : IsV D t v) (hm : IsRow1 M mt) (ha : IsScaled D M (t + 1) a al) :
    IsSum D M t (k0_pay9 k0_pay21 v al s mt a) := by
  intro r c
  pointwise [k0_pay9, k0_pay21]
  refine tile_sum ht hs r c _ _ _ ?_ (fun x => ?_) (fun x => ?_)
  · split_ifs <;> exact ha r c _
  · split_ifs <;> exact hm r _
  · unfold Reals.col
    by_cases h : c.val < 128
    · rw [dif_pos h, dif_pos h]; exact hv x _
    · rw [dif_neg h, dif_neg h]; rfl
theorem sum59 (ht : t ≤ D.qi) (hs : IsScore1 D t s) (hv : IsV D t v) (hm : IsRow1 M mt) (ha : IsScaled D M (t + 1) a al) :
    IsSum D M t (k0_pay59 k0_pay21 v al s mt a) := by
  intro r c
  pointwise [k0_pay59, k0_pay21]
  refine tile_sum ht hs r c _ _ _ ?_ (fun x => ?_) (fun x => ?_)
  · split_ifs <;> exact ha r c _
  · split_ifs <;> exact hm r _
  · unfold Reals.col
    by_cases h : c.val < 128
    · rw [dif_pos h, dif_pos h]; exact hv x _
    · rw [dif_neg h, dif_neg h]; rfl
theorem sum16 (ht : t ≤ D.qi) (hs : IsScore1 D t s) (hv : IsV D t v) (hm : IsRow1 M mt) (ha : IsScaled D M (t + 1) a al) :
    IsSum D M t (k0_pay16 k0_pay21 v al s mt a) := by
  intro r c
  pointwise [k0_pay16, k0_pay21]
  refine tile_sum ht hs r c _ _ _ ?_ (fun x => ?_) (fun x => ?_)
  · split_ifs <;> exact ha r c _
  · split_ifs <;> exact hm r _
  · unfold Reals.col
    by_cases h : c.val < 128
    · rw [dif_pos h, dif_pos h]; exact hv x _
    · rw [dif_neg h, dif_neg h]; rfl
theorem sum48 (ht : t ≤ D.qi) (hs : IsScore1 D t s) (hv : IsV D t v) (hm : IsRow1 M mt) (ha : IsScaled D M (t + 1) a al) :
    IsSum D M t (k0_pay48 k0_pay21 (k0_pay17 v) (k0_pay18 al) s mt a) := by
  intro r c
  pointwise [k0_pay48, k0_pay21, k0_pay17, k0_pay18]
  refine tile_sum ht hs r c _ _ _ ?_ (fun x => ?_) (fun x => ?_)
  · split_ifs <;> exact ha r c _
  · split_ifs <;> exact hm r _
  · unfold Reals.col
    by_cases h : c.val < 128
    · rw [dif_pos h, dif_pos h]; exact hv x _
    · rw [dif_neg h, dif_neg h]; rfl

end Cert.Proof.KI

end
-- ==== Proof.KI.Turns.lean ====
/- The walk over the key tiles at the ideal values: what its buffers hold holds at its start and after each turn, and
   where it ends every key tile has been summed. -/
module

public import proofs.«01_k».proof.Proof.KI.Sums

@[expose] public section

set_option maxRecDepth 16384

noncomputable section

namespace Cert.Proof.KI

open Cert.KernelIdeal Cert.KernelIdeal.Gen
open Idealize.ShloMosaic Idealize.ShloMosaic.TcCoe
open scoped BigOperators

/-! ### The bounds never end the walk early -/

/-- What is left above the weight that rounds to zero is nothing. -/
theorem no_room (x y : EReal) : (x - ⊤) - y = ⊥ := by
  rw [EReal.sub_top, EReal.bot_sub]
theorem zero_weight : (Named.named κ "zero_weight" 0x431C0000#32 : Ideal .f32) = ⊤ := IdealRules.named_const.ideal_named_scalar _ _ _ _ rfl

theorem no_more {x : Ideal .f32} (h : x = ⊥) : ¬ Scalar.cmpf CmpFPredicate.ogt x (FloatOps.ofBits .f32 0#32) = 1#1 := by
  subst h
  show ¬ Ideal.cmp .ogt ⊥ (Ideal.ofBits .f32 0#32) = 1#1
  unfold Ideal.cmp
  simp

theorem room3 (i : grid0.Coords) (σ w : Ideal .f32) (c : BitVec 32) : k0_pay3 i σ c w = ⊥ := by
  unfold k0_pay3; rw [zero_weight]; exact no_room _ _
theorem room42 (q b : BitVec 32) (σ w : Ideal .f32) : k0_pay42 q σ w b = ⊥ := by
  unfold k0_pay42; rw [zero_weight]; exact no_room _ _

/-- Where the walk ends, at most one tile is left. -/
theorem ended (i : grid0.Coords) {j : ℕ} (hj : j ≤ (i 2).val) (σ u u' w w' : Ideal .f32) (x y : Elt Ideal .f32) (h : ¬ more i σ u u' j w w' x y = 1#1) :
    (i 2).val < j + 2 := by
  unfold more at h
  rw [and_bits, flipped, and_bits, and_bits, two_more i j hj] at h
  by_contra hc
  exact h ⟨by omega, fun e => no_more (room3 i σ w (ctr j)) e.1.1⟩

/-- The tile after is taken when it exists. -/
theorem taken (i : grid0.Coords) {j : ℕ} (hj : j ≤ (i 2).val) (q b : BitVec 32) (σ w : Ideal .f32) (p d e : BitVec 1) :
    k0_cond2 i (ctr j) (Scalar.cmpf .ogt (k0_pay42 q σ w b) (FloatOps.ofBits .f32 0#32)) p d e = 1#1 ↔ j + 1 ≤ (i 2).val := by
  rw [cond2_iff i j hj, and_bits, and_bits]
  exact ⟨fun h => h.1, fun h => ⟨h, fun e => no_more (room42 q b σ w) e.1.1⟩⟩

/-! ### Shapes only -/

theorem read23 (r l) : k0_pay23 (F := Ideal) (ix2 r l) = ⊥ := by pointwise [k0_pay23]; exact neg_big
theorem read22 (r c) : k0_pay22 (F := Ideal) (ix2 r c) = 0 := by pointwise! [k0_pay22]
theorem read36 (m : FVec Ideal S1024x128 .f32) (r l) : k0_pay36 m (ix2 r l) = m (ix2 r l) := by pointwise! [k0_pay36]
theorem read58 (m : FVec Ideal S1024x128 .f32) (r l) : k0_pay58 m (ix2 r l) = m (ix2 r l) := by pointwise! [k0_pay58]
theorem read34 (m : FVec Ideal S1024x128 .f32) (r l) : k0_pay34 m (ix3 0 r l) = m (ix2 r l) := by pointwise! [k0_pay34]
theorem read33 (s : FVec Ideal S1024x512 .f32) (r l) : k0_pay33 s (ix3 0 r l) = s (ix2 r l) := by pointwise! [k0_pay33]
theorem read57 (m m' : FVec Ideal S1024x128 .f32) (r l) : k0_pay57 m m' (ix3 0 r l) = Ideal.exp2 (m (ix2 r l) - m' (ix2 r l)) := by pointwise! [k0_pay57]

section
variable (q c : BitVec 32) (v16 : FVec Ideal S1024x128 .bf16) (σ : Ideal .f32) (w : IVec S1x512 32) (k : Vec Ideal S1x512x128 .bf16) (m : Vec Ideal S1024x128 .f32)
  (r : Fin 1024) (l : Fin 128) (x : Fin 512)
theorem read55 : k0_pay55 σ w v16 c q k (ix3 0 r x) = k0_pay53 σ w v16 c q k (ix2 r x) := by pointwise! [k0_pay55]
theorem read56 : k0_pay56 σ w v16 c q k m (ix3 0 r l) = k0_pay54 σ w v16 c q k m (ix2 r l) := by pointwise! [k0_pay56]
theorem read65 : k0_pay65 σ w v16 q c k m (ix2 r l) = k0_pay61 σ w v16 q c k m (ix2 r l) := by pointwise! [k0_pay65]
theorem read64 : k0_pay64 σ w v16 q c k m (ix3 0 r l) = Ideal.exp2 (m (ix2 r l) - k0_pay61 σ w v16 q c k m (ix2 r l)) := by pointwise! [k0_pay64]
theorem read63 : k0_pay63 σ w v16 q c k m (ix3 0 r l) = k0_pay61 σ w v16 q c k m (ix2 r l) := by pointwise! [k0_pay63]
theorem read62 : k0_pay62 σ w v16 q c k (ix3 0 r x) = k0_pay60 σ w v16 q c k (ix2 r x) := by pointwise! [k0_pay62]
theorem read12 : k0_pay12 q v16 σ w c k (ix3 0 r x) = k0_pay10 q v16 σ w c k (ix2 r x) := by pointwise! [k0_pay12]
theorem read13 : k0_pay13 q v16 σ w c k m (ix3 0 r l) = k0_pay11 q v16 σ w c k m (ix2 r l) := by pointwise! [k0_pay13]
theorem read14 : k0_pay14 q v16 σ w c k m (ix3 0 r l) = Ideal.exp2 (m (ix2 r l) - k0_pay11 q v16 σ w c k m (ix2 r l)) := by pointwise! [k0_pay14]
end

variable {D : Reals} {v16 : FVec Ideal S1024x128 .bf16} {x4 x5 : Vec Ideal S1x8192x128 .bf16}
  (hQ : IsQ D v16) (hK : ∀ t, t ≤ D.qi → IsK D t (tile x4 t)) (hV : ∀ t, t ≤ D.qi → IsV D t (tile x5 t)) (i : grid0.Coords) (hi : (i 2).val = D.qi)

include hQ hK hi in
theorem starts : Starts i (Head D) v16 ((D.σ : ℝ) : EReal) lanes x4 := by
  unfold Starts
  rw [hi]
  have hs := first_score hQ (hK D.qi le_rfl)
  obtain ⟨M, hM⟩ := row_max hs (max32 (qw D) v16 ((D.σ : ℝ) : EReal) lanes (tile x4 D.qi) (k0_pay23 (F := Ideal))) (fun _ => ⊥) read23 (fun _ => bot_ne_top)
    (fun r => .inr ⟨0, by
      unfold Reals.masked
      rw [if_pos (show D.Seen r (512 * D.qi + (0 : Fin 512).val) by unfold Reals.Seen; show 512 * D.qi + 0 ≤ _; omega)]
      exact EReal.coe_ne_bot _⟩)
  refine ⟨Nat.zero_le _, M, fun r l => (read36 _ r l).trans (hM r l), fun r l => (read34 _ r l).trans (hM r l), fun r x => (read33 _ r x).trans (hs r x), fun r c l => ?_⟩
  rw [read22, Nat.sub_zero, D.sum_empty]
  exact zero_mul _

include hQ hK hV hi in
theorem steps : Steps i ((D.σ : ℝ) : EReal) lanes v16 k0_pay21 x4 x5 (Head D) := by
  intro j a m al mt s hj ⟨hjq, M, hm, hmt, hs, ha⟩
  rw [hi] at hj ⊢
  have e1 : D.qi - j = D.qi - (j + 1) + 1 := by omega
  have e2 : D.qi - (j + 1) = D.qi - (j + 2) + 1 := by omega
  have h1 := next_score hQ (j := j) (by omega) (hK (D.qi - (j + 1)) (by omega))
  obtain ⟨M1, hM1⟩ := row_max_of h1 (max54 (qw D) (ctr j) v16 ((D.σ : ℝ) : EReal) lanes (tile x4 (D.qi - (j + 1))) m) hm
  have ha1 := sum59 (by omega) hs (hV (D.qi - j) (by omega)) hmt ha
  rw [e1] at ha1
  have hs1 := scaled_of ha1 hm hM1 (read57 m _)
  have ha2 := sum9 (by omega) (s := k0_pay55 ((D.σ : ℝ) : EReal) lanes v16 (ctr j) (qw D) (tile x4 (D.qi - (j + 1)))) (fun r x => (read55 _ _ _ _ _ _ r x).trans (h1 r x)) (hV (D.qi - (j + 1)) (by omega))
    (mt := k0_pay56 ((D.σ : ℝ) : EReal) lanes v16 (ctr j) (qw D) (tile x4 (D.qi - (j + 1))) m) (fun r l => (read56 _ _ _ _ _ _ _ r l).trans (hM1 r l)) hs1
  have hm1 : IsRow M1 (k0_pay58 (k0_pay54 ((D.σ : ℝ) : EReal) lanes v16 (ctr j) (qw D) (tile x4 (D.qi - (j + 1))) m)) := fun r l => (read58 _ r l).trans (hM1 r l)
  have h2 := next2_score hQ (j := j) hj (hK (D.qi - (j + 2)) (by omega))
  obtain ⟨M2, hM2⟩ := row_max_of h2 (max61 (qw D) (Scalar.subi (qw D) (ctr j)) v16 ((D.σ : ℝ) : EReal) lanes (tile x4 (D.qi - (j + 2))) _) hm1
  rw [e2] at ha2
  exact ⟨hj, M2, fun r l => (read65 _ _ _ _ _ _ _ r l).trans (hM2 r l), fun r l => (read63 _ _ _ _ _ _ _ r l).trans (hM2 r l),
    fun r x => (read62 _ _ _ _ _ _ r x).trans (h2 r x), scaled_of (by rw [e1, e2]; exact ha2) hm1 hM2 fun r l => read64 _ _ _ _ _ _ _ r l⟩

include hQ hK hV hi in
theorem ends (O : FVec Ideal S1x512x128 .f32 → Prop) (lam : Elt Ideal .f32) (g : Vec Ideal S1x128 .f32)
    (hO : ∀ M A, IsSum D M 0 A → O (finish A lam g)) : Ends i (Head D) O v16 ((D.σ : ℝ) : EReal) lanes k0_pay21 x4 x5 lam g := by
  intro j a m al mt s hj ⟨w18, w19, x', y', hmore⟩ ⟨hjq, M, hm, hmt, hs, ha⟩ x y
  have hend := ended i hj _ _ _ _ _ _ _ hmore
  refine ⟨fun h => ?_, fun h => ?_⟩
  · have h1j := (taken i hj _ _ _ _ _ _ _).mp h
    rw [hi] at h1j hend ⊢
    have e1 : D.qi - j = D.qi - (j + 1) + 1 := by omega
    have h1 := last_score hQ (j := j) (by omega) (hK (D.qi - (j + 1)) (by omega))
    obtain ⟨M1, hM1⟩ := row_max_of h1 (max11 (qw D) (ctr j) v16 ((D.σ : ℝ) : EReal) lanes (tile x4 (D.qi - (j + 1))) m) hm
    have ha1 := sum16 (by omega) hs (hV (D.qi - j) (by omega)) hmt ha
    rw [e1] at ha1
    have hs1 := scaled_of ha1 hm hM1 (read14 (qw D) (ctr j) v16 ((D.σ : ℝ) : EReal) lanes (tile x4 (D.qi - (j + 1))) m)
    have ha2 := sum48 (by omega) (s := k0_pay12 (qw D) v16 ((D.σ : ℝ) : EReal) lanes (ctr j) (tile x4 (D.qi - (j + 1)))) (fun r x => (read12 _ _ _ _ _ _ r x).trans (h1 r x)) (hV (D.qi - (j + 1)) (by omega))
      (mt := k0_pay13 (qw D) v16 ((D.σ : ℝ) : EReal) lanes (ctr j) (tile x4 (D.qi - (j + 1))) m) (fun r l => (read13 _ _ _ _ _ _ _ r l).trans (hM1 r l)) hs1
    refine hO M1 _ ?_
    rw [← e1] at ha2
    have e0 : D.qi - (j + 1) = 0 := by omega
    rw [e0] at ha2 ⊢
    exact ha2
  · have h1j : ¬ j + 1 ≤ (i 2).val := fun e => h ((taken i hj _ _ _ _ _ _ _).mpr e)
    rw [hi] at h1j hend hj ⊢
    have e0 : D.qi - j = 0 := by omega
    have ha1 := sum49 (by omega) hs (hV (D.qi - j) (by omega)) hmt ha
    refine hO M _ ?_
    rw [e0] at ha1 ⊢
    exact ha1

end Cert.Proof.KI

end
-- ==== Proof.Attend.lean ====
/- The attention in real numbers: the softmax of each query's scores, the two maps' difference, the sum of the values. -/
module

public import Idealize.ShloMosaic.Lib.Pointwise

@[expose] public section

noncomputable section

namespace Cert.Proof

open Idealize.ShloMosaic
open scoped BigOperators

/-- The softmax of the scores `s` of the positions up to `q`, at position `n`. -/
def share (s : ℕ → ℝ) (q n : ℕ) : ℝ := if n ≤ q then Real.exp (s n) / ∑ k ∈ Finset.range (q + 1), Real.exp (s k) else 0

theorem total_pos (s : ℕ → ℝ) (q : ℕ) : 0 < ∑ k ∈ Finset.range (q + 1), Real.exp (s k) :=
  Finset.sum_pos (fun _ _ => Real.exp_pos _) ⟨0, by simp⟩

/-- Weights that are the exponentials up to a factor, and zero past `q`, summed with `f`. -/
theorem weighted (s w f : ℕ → ℝ) {q N : ℕ} {C : ℝ} (hq : q < N) (h : ∀ n, n ≤ q → w n = C * Real.exp (s n)) (hz : ∀ n, q < n → w n = 0) :
    ∑ n ∈ Finset.range N, w n * f n = C * ∑ n ∈ Finset.range (q + 1), Real.exp (s n) * f n := by
  rw [← Finset.sum_subset (s₁ := Finset.range (q + 1)) (fun x hx => by simp at hx ⊢; omega)
    (fun x _ hx => by rw [hz x (by simp at hx; omega), zero_mul]), Finset.mul_sum]
  exact Finset.sum_congr rfl fun n hn => by rw [h n (by simp at hn; omega), mul_assoc]

theorem weighted_one (s w : ℕ → ℝ) {q N : ℕ} {C : ℝ} (hq : q < N) (h : ∀ n, n ≤ q → w n = C * Real.exp (s n)) (hz : ∀ n, q < n → w n = 0) :
    ∑ n ∈ Finset.range N, w n = C * ∑ n ∈ Finset.range (q + 1), Real.exp (s n) := by
  simpa using weighted s w (fun _ => 1) hq h hz

/-- Such a weight over the weights' sum is the softmax. -/
theorem share_of (s w : ℕ → ℝ) {q N : ℕ} {C : ℝ} (hC : 0 < C) (hq : q < N) (h : ∀ n, n ≤ q → w n = C * Real.exp (s n)) (hz : ∀ n, q < n → w n = 0) (n : ℕ) :
    w n / ∑ k ∈ Finset.range N, w k = share s q n := by
  rw [weighted_one s w hq h hz]
  unfold share
  split_ifs with hn
  · rw [h n hn, mul_div_mul_left _ _ hC.ne']
  · rw [hz n (by omega), zero_div]

/-- The softmax's sum of `f`, over any number of positions past `q`. -/
theorem share_sum (s f : ℕ → ℝ) {q N : ℕ} (hq : q < N) :
    ∑ n ∈ Finset.range N, f n * share s q n = (∑ n ∈ Finset.range (q + 1), Real.exp (s n) * f n) / ∑ n ∈ Finset.range (q + 1), Real.exp (s n) := by
  have e := weighted s (share s q) f (C := (∑ n ∈ Finset.range (q + 1), Real.exp (s n))⁻¹) hq
    (fun n hn => by unfold share; rw [if_pos hn, div_eq_inv_mul]) (fun n hn => by unfold share; rw [if_neg (by omega)])
  rw [div_eq_inv_mul, ← e]
  exact Finset.sum_congr rfl fun n _ => mul_comm _ _

/-- The weighted sum over the weights' sum is the softmax's sum. -/
theorem ratio (s w f : ℕ → ℝ) {q N N' : ℕ} {C : ℝ} (hC : 0 < C) (hq : q < N) (hq' : q < N') (h : ∀ n, n ≤ q → w n = C * Real.exp (s n)) (hz : ∀ n, q < n → w n = 0) :
    (∑ n ∈ Finset.range N, w n * f n) / (∑ n ∈ Finset.range N, w n) = ∑ n ∈ Finset.range N', f n * share s q n := by
  rw [share_sum s f hq', weighted s w f hq h hz, weighted_one s w hq h hz, mul_div_mul_left _ _ hC.ne']

theorem weights_pos (s w : ℕ → ℝ) {q N : ℕ} {C : ℝ} (hC : 0 < C) (hq : q < N) (h : ∀ n, n ≤ q → w n = C * Real.exp (s n)) (hz : ∀ n, q < n → w n = 0) :
    0 < ∑ n ∈ Finset.range N, w n := by
  rw [weighted_one s w hq h hz]; exact mul_pos hC (total_pos s q)

/-- The queries, keys and values as reals: by batch, position and column. -/
def reals (x : (⟨3, ![4, 8192, 3072]⟩ : Shape).Idx → EReal) (b : Fin 4) (n c : ℕ) : ℝ :=
  if h : n < 8192 ∧ c < 3072 then (x (ix3 b ⟨n, h.1⟩ ⟨c, h.2⟩)).toReal else 0

/-- Nothing infinite among a tensor's elements. -/
def Finite {s : Shape} (x : s.Idx → EReal) : Prop := ∀ i, x i ≠ ⊤ ∧ x i ≠ ⊥

theorem reals_eq {x : (⟨3, ![4, 8192, 3072]⟩ : Shape).Idx → EReal} (hx : Finite x) (b : Fin 4) {n c : ℕ} (hn : n < 8192) (hc : c < 3072) :
    x (ix3 b ⟨n, hn⟩ ⟨c, hc⟩) = ((reals x b n c : ℝ) : EReal) := by
  unfold reals
  rw [dif_pos ⟨hn, hc⟩, EReal.coe_toReal (hx _).1 (hx _).2]

/-- The slope of a head's distance penalty. -/
def slope (h : ℕ) : ℝ := (1 / 4) ^ (h + 1)

/-- The slopes as words. -/
def slopeWord (h : Fin 4) : BitVec 32 := ![0x3E800000#32, 0x3D800000#32, 0x3C800000#32, 0x3B800000#32] h

theorem slope_word (h : Fin 4) : Ideal.ofBits .f32 (slopeWord h) = ((slope h.val : ℝ) : EReal) := by
  fin_cases h
  all_goals
    simp only [slopeWord, slope, Ideal.ofBits, Ideal.ieee]
    simp [-EReal.coe_mul, -EReal.coe_pow, -EReal.coe_natCast, -EReal.coe_add]
    norm_num

/-- The score of query position `q` against key position `n`, in head `h`'s half `u`. -/
def score (X : ℕ → ℕ → ℝ) (h u q n : ℕ) : ℝ :=
  (∑ d : Fin 64, X q (1536 + (h * 128 + u * 64 + d.val)) * X n (2048 + (h * 128 + u * 64 + d.val))) * (1 / 8) - slope h * ((q : ℝ) - n)

/-- The values summed under the first softmax less `l` times the second. -/
def attend (X : ℕ → ℕ → ℝ) (l : ℝ) (h q d : ℕ) : ℝ :=
  ∑ n ∈ Finset.range 8192, X n (2560 + (h * 128 + d)) * (share (score X h 0 q) q n - l * share (score X h 1 q) q n)

/-- A head's output over the root of its mean square, scaled by the gains. -/
def lastNorm (o g : Fin 128 → EReal) (d : Fin 128) : EReal :=
  o d * Ideal.rsqrt (Ideal.div (∑ x, o x * o x) (Ideal.ofBits .f32 0x43000000#32) + Ideal.ofBits .f32 0x358637BD#32) * g d * Ideal.ofBits .f32 0x3F4CCCCD#32

/-- The attention's result, by batch, position and column. -/
def resultAt (x : (⟨3, ![4, 8192, 3072]⟩ : Shape).Idx → EReal) (l : (⟨2, ![1, 1]⟩ : Shape).Idx → EReal) (g : (⟨2, ![1, 128]⟩ : Shape).Idx → EReal)
    (b : Fin 4) (q h : ℕ) (d : Fin 128) : EReal :=
  lastNorm (fun d => ((attend (reals x b) (l (ix2 0 0)).toReal h q d.val : ℝ) : EReal)) (fun d => g (ix2 0 d)) d

theorem div_real (a b : ℝ) (hb : b ≠ 0) : Ideal.div ((a : ℝ) : EReal) ((b : ℝ) : EReal) = ((a / b : ℝ) : EReal) := by
  rw [div_eq_mul_inv, EReal.coe_mul]
  unfold Ideal.div
  simp [hb, EReal.coe_inv]

theorem real_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

end Cert.Proof

end
-- ==== Proof.KI.Read.lean ====
/- The kernel's output block read at an index: with the accumulator's sums it is the attention's result. -/
module

public import proofs.«01_k».proof.Proof.KI.Turns
public import proofs.«01_k».proof.Proof.Attend

@[expose] public section

set_option maxRecDepth 16384

noncomputable section

namespace Cert.Proof.KI

open Cert.KernelIdeal Cert.KernelIdeal.Gen
open Idealize.ShloMosaic Idealize.ShloMosaic.TcCoe
open scoped BigOperators

/-- The reals of query tile `qi` of head `h`, of the queries, keys and values `X`. -/
def tileReals (X : ℕ → ℕ → ℝ) (h qi : ℕ) (hqi : qi < 16) : Reals where
  qi := qi
  hqi := hqi
  Q r d := if r.val < 512 then (if d.val < 64 then X (512 * qi + r.val) (1536 + (h * 128 + d.val)) * (1 / 8 * (Real.log 2)⁻¹) else 0)
    else (if 64 ≤ d.val then X (512 * qi + (r.val - 512)) (1536 + (h * 128 + d.val)) * (1 / 8 * (Real.log 2)⁻¹) else 0)
  K n d := X n (2048 + (h * 128 + d.val))
  V n d := X n (2560 + (h * 128 + d.val))
  σ := slope h * (Real.log 2)⁻¹

theorem upper_read_at (a : Vec Ideal S1024x256 .f32) (r : Fin 512) (d : Fin 256) : upper a (ix2 r d) = a (ix2 ⟨r.val, by omega⟩ d) := by
  unfold upper
  congr 1
  funext a
  match a with
  | 0 => apply Fin.ext; show 0 + 1 * r.val = r.val; omega
  | 1 => apply Fin.ext; show 0 + 1 * d.val = d.val; omega
theorem lower_read_at (a : Vec Ideal S1024x256 .f32) (r : Fin 512) (d : Fin 256) : lower a (ix2 r d) = a (ix2 ⟨512 + r.val, by omega⟩ d) := by
  unfold lower
  congr 1
  funext a
  match a with
  | 0 => apply Fin.ext; show 512 + 1 * r.val = 512 + r.val; omega
  | 1 => apply Fin.ext; show 0 + 1 * d.val = d.val; omega

theorem first_map (x : Vec Ideal S512x256 .f32) (r : Fin 512) (d : Fin 128) :
    k0_pay50 x (ix2 r d) = Ideal.div (x (ix2 r ⟨d.val, by omega⟩)) (x (ix2 r ⟨128 + d.val, by omega⟩)) := by
  pointwise [k0_pay50]

theorem last_norm (x : Vec Ideal S512x256 .f32) (y : FVec Ideal S512x128 .f32) (l : Ideal .f32) (g : Vec Ideal S1x128 .f32) (r : Fin 512) (d : Fin 128) :
    k0_pay1 x y l g (ix3 0 r d)
      = lastNorm (fun d => y (ix2 r d) - l * Ideal.div (x (ix2 r ⟨d.val, by omega⟩)) (x (ix2 r ⟨128 + d.val, by omega⟩))) (fun d => g (ix2 0 d)) d := by
  pointwise [k0_pay1]
  rfl

variable (X : ℕ → ℕ → ℝ) (h qi : ℕ) (hqi : qi < 16)

theorem low_products (r n : ℕ) (hr : r < 512) :
    (∑ d : Fin 128, (tileReals X h qi hqi).Q ⟨r, by omega⟩ d * (tileReals X h qi hqi).K n d)
      = (∑ d : Fin 64, X (512 * qi + r) (1536 + (h * 128 + 0 * 64 + d.val)) * X n (2048 + (h * 128 + 0 * 64 + d.val))) * (1 / 8 * (Real.log 2)⁻¹) := by
  rw [show (∑ d : Fin 128, (tileReals X h qi hqi).Q ⟨r, by omega⟩ d * (tileReals X h qi hqi).K n d)
    = ∑ d : Fin (64 + 64), (tileReals X h qi hqi).Q ⟨r, by omega⟩ d * (tileReals X h qi hqi).K n d from rfl, Fin.sum_univ_add, Finset.sum_mul]
  rw [Finset.sum_eq_zero (s := Finset.univ) (f := fun i : Fin 64 => (tileReals X h qi hqi).Q ⟨r, by omega⟩ (Fin.natAdd 64 i) * (tileReals X h qi hqi).K n (Fin.natAdd 64 i)) fun d _ => by
    unfold tileReals; dsimp only; rw [if_pos hr, if_neg (by simp), zero_mul], add_zero]
  refine Finset.sum_congr rfl fun d _ => ?_
  unfold tileReals; dsimp only
  rw [if_pos hr, if_pos (by simp)]
  simp only [Fin.val_castAdd, zero_mul, add_zero]
  ring

theorem high_products (r n : ℕ) (hr : r < 512) :
    (∑ d : Fin 128, (tileReals X h qi hqi).Q ⟨512 + r, by omega⟩ d * (tileReals X h qi hqi).K n d)
      = (∑ d : Fin 64, X (512 * qi + r) (1536 + (h * 128 + 1 * 64 + d.val)) * X n (2048 + (h * 128 + 1 * 64 + d.val))) * (1 / 8 * (Real.log 2)⁻¹) := by
  rw [show (∑ d : Fin 128, (tileReals X h qi hqi).Q ⟨512 + r, by omega⟩ d * (tileReals X h qi hqi).K n d)
    = ∑ d : Fin (64 + 64), (tileReals X h qi hqi).Q ⟨512 + r, by omega⟩ d * (tileReals X h qi hqi).K n d from rfl, Fin.sum_univ_add, Finset.sum_mul]
  rw [Finset.sum_eq_zero (s := Finset.univ) (f := fun i : Fin 64 => (tileReals X h qi hqi).Q ⟨512 + r, by omega⟩ (Fin.castAdd 64 i) * (tileReals X h qi hqi).K n (Fin.castAdd 64 i)) fun d _ => by
    unfold tileReals; dsimp only; rw [if_neg (by omega), if_neg (by simp), zero_mul], zero_add]
  refine Finset.sum_congr rfl fun d _ => ?_
  unfold tileReals; dsimp only
  rw [if_neg (by omega), if_pos (by simp)]
  simp only [Fin.val_natAdd, one_mul, Nat.add_sub_cancel_left, add_assoc]
  ring

/-- The kernel's weights are the exponentials of the scores up to a factor of the row. -/
theorem wt_eq (M : Fin 1024 → ℝ) (u : ℕ) (R : Fin 1024) (r : ℕ) (hr : R.val % 512 = r)
    (hp : ∀ n, (∑ d : Fin 128, (tileReals X h qi hqi).Q R d * (tileReals X h qi hqi).K n d)
      = (∑ d : Fin 64, X (512 * qi + r) (1536 + (h * 128 + u * 64 + d.val)) * X n (2048 + (h * 128 + u * 64 + d.val))) * (1 / 8 * (Real.log 2)⁻¹)) :
    ∃ C : ℝ, 0 < C ∧ (∀ n, n ≤ 512 * qi + r → (tileReals X h qi hqi).wt M R n = C * Real.exp (score X h u (512 * qi + r) n))
      ∧ ∀ n, 512 * qi + r < n → (tileReals X h qi hqi).wt M R n = 0 := by
  refine ⟨(2 : ℝ) ^ ((Real.log 2)⁻¹ * (slope h * r) - M R), Real.rpow_pos_of_pos (by norm_num) _, fun n hn => ?_, fun n hn => ?_⟩
  · unfold Reals.wt
    rw [if_pos (show (tileReals X h qi hqi).Seen R n by unfold Reals.Seen; rw [hr]; exact hn)]
    have hl : Real.log 2 ≠ 0 := (Real.log_pos (by norm_num)).ne'
    have e : (tileReals X h qi hqi).score R n - M R
        = ((Real.log 2)⁻¹ * (slope h * r) - M R) + (Real.log 2)⁻¹ * score X h u (512 * qi + r) n := by
      unfold Reals.score
      rw [hp]
      unfold score
      show _ + ((n : ℝ) - 512 * (qi : ℕ)) * (slope h * (Real.log 2)⁻¹) - M R = _
      push_cast
      ring
    rw [e, Real.rpow_add (by norm_num)]
    congr 1
    rw [Real.rpow_def_of_pos (by norm_num), ← mul_assoc, mul_inv_cancel₀ hl, one_mul]
  · unfold Reals.wt
    rw [if_neg (show ¬ (tileReals X h qi hqi).Seen R n by unfold Reals.Seen; rw [hr]; exact not_le.mpr hn)]

/-- The accumulator's quotient is the softmax's sum of the values. -/
theorem quotient (M : Fin 1024 → ℝ) (u : ℕ) (R : Fin 1024) (r : ℕ) (hr : R.val % 512 = r)
    (hp : ∀ n, (∑ d : Fin 128, (tileReals X h qi hqi).Q R d * (tileReals X h qi hqi).K n d)
      = (∑ d : Fin 64, X (512 * qi + r) (1536 + (h * 128 + u * 64 + d.val)) * X n (2048 + (h * 128 + u * 64 + d.val))) * (1 / 8 * (Real.log 2)⁻¹))
    (A : Vec Ideal S1024x256 .f32) (hA : IsSum (tileReals X h qi hqi) M 0 A) (d : Fin 128) :
    Ideal.div (A (ix2 R ⟨d.val, by omega⟩)) (A (ix2 R ⟨128 + d.val, by omega⟩))
      = ((∑ n ∈ Finset.range 8192, X n (2560 + (h * 128 + d.val)) * share (score X h u (512 * qi + r)) (512 * qi + r) n : ℝ) : EReal) := by
  obtain ⟨C, hC, h1, h0⟩ := wt_eq X h qi hqi M u R r hr hp
  have hlt : r < 512 := by omega
  have hN : (tileReals X h qi hqi).sum M 0 R ⟨d.val, by omega⟩
      = ∑ n ∈ Finset.range (512 * (qi + 1)), (tileReals X h qi hqi).wt M R n * X n (2560 + (h * 128 + d.val)) := by
    unfold Reals.sum
    rw [mul_zero, ← Finset.range_eq_Ico]
    refine Finset.sum_congr rfl fun n _ => ?_
    unfold Reals.col
    rw [dif_pos d.isLt]; rfl
  have hD : (tileReals X h qi hqi).sum M 0 R ⟨128 + d.val, by omega⟩
      = ∑ n ∈ Finset.range (512 * (qi + 1)), (tileReals X h qi hqi).wt M R n := by
    unfold Reals.sum
    rw [mul_zero, ← Finset.range_eq_Ico]
    refine Finset.sum_congr rfl fun n _ => ?_
    unfold Reals.col
    rw [dif_neg (by simp), mul_one]
  rw [hA, hA, hN, hD, div_real _ _ (weights_pos _ _ hC (show 512 * qi + r < 512 * (qi + 1) by omega) h1 h0).ne',
    ratio _ _ _ (N' := 8192) hC (show 512 * qi + r < 512 * (qi + 1) by omega) (by omega) h1 h0]

/-- The block the kernel writes, of the sums over all the positions. -/
theorem finish_read (M : Fin 1024 → ℝ) (A : Vec Ideal S1024x256 .f32) (hA : IsSum (tileReals X h qi hqi) M 0 A) (l : ℝ) (g : Vec Ideal S1x128 .f32) (r : Fin 512) (d : Fin 128) :
    finish A ((l : ℝ) : EReal) g (ix3 0 r d)
      = lastNorm (fun d => ((attend X l h (512 * qi + r.val) d.val : ℝ) : EReal)) (fun d => g (ix2 0 d)) d := by
  unfold finish
  rw [last_norm]
  congr 1
  funext d
  rw [first_map, upper_read_at, upper_read_at, lower_read_at, lower_read_at,
    quotient X h qi hqi M 0 ⟨r.val, by omega⟩ r.val (by simp) (fun n => low_products X h qi hqi r.val n r.isLt) A hA,
    quotient X h qi hqi M 1 ⟨512 + r.val, by omega⟩ r.val (by simp) (fun n => high_products X h qi hqi r.val n r.isLt) A hA,
    ← EReal.coe_mul, ← EReal.coe_sub]
  congr 1
  unfold attend
  rw [Finset.mul_sum, ← Finset.sum_sub_distrib]
  exact Finset.sum_congr rfl fun n _ => by ring

theorem lane_low : ∀ d : Fin 128, IntOp.cmpi CmpIPredicate.slt (BitVec.ofNat 32 d.val) 64#32 = 1#1 ↔ d.val < 64 := by decide
theorem lane_high : ∀ d : Fin 128, IntOp.cmpi CmpIPredicate.sge (BitVec.ofNat 32 d.val) 64#32 = 1#1 ↔ 64 ≤ d.val := by decide

/-- The scaled queries, one half's lanes in each half of the rows. -/
theorem queries_real (x : Vec Ideal S1x512x128 .bf16) (hx : ∀ r d, x (ix3 0 r d) = ((X (512 * qi + r.val) (1536 + (h * 128 + d.val)) : ℝ) : EReal)) :
    IsQ (tileReals X h qi hqi) (k0_pay19 x) := by
  intro r d
  pointwise [k0_pay19]
  rw [show (Named.named κ "q_scale" 1043900987#32 : Ideal .f32) = (((1 / 8) * (Real.log 2)⁻¹ : ℝ) : EReal) from IdealRules.named_const.ideal_named_scalar _ _ _ _ rfl]
  unfold tileReals
  dsimp only
  by_cases hr : r.val < 512
  · rw [dif_pos hr, if_pos hr, hx, select_bit]
    by_cases hd : d.val < 64
    · rw [if_pos ((lane_low d).mpr hd), if_pos hd, ← EReal.coe_mul]
    · rw [if_neg (fun e => hd ((lane_low d).mp e)), if_neg hd]; rfl
  · rw [dif_neg hr, if_neg hr, hx, select_bit]
    by_cases hd : 64 ≤ d.val
    · rw [if_pos ((lane_high d).mpr hd), if_pos hd, ← EReal.coe_mul]
    · rw [if_neg (fun e => hd ((lane_high d).mp e)), if_neg hd]; rfl

theorem slope_real (x : Ideal .f32) (hx : x = ((slope h : ℝ) : EReal)) : k0_pay20 (F := Ideal) x = (((tileReals X h qi hqi).σ : ℝ) : EReal) := by
  subst hx
  unfold k0_pay20
  rw [show (Named.named κ "log2e" 0x3FB8AA3B#32 : Ideal .f32) = (((Real.log 2)⁻¹ : ℝ) : EReal) from IdealRules.named_const.ideal_named_scalar _ _ _ _ rfl]
  exact (EReal.coe_mul _ _).symm

end Cert.Proof.KI

end
-- ==== Proof.KI.Shown.lean ====
/- What the windows show: the host's cast argument, the weight, the slopes and the gains, at the grid point's block. -/
module

public import proofs.«01_k».proof.Proof.KI.Frame
public import proofs.«01_k».proof.Proof.KI.Read

@[expose] public section

set_option maxRecDepth 16384

noncomputable section

namespace Cert.Proof.KI

open Cert.KernelIdeal Cert.KernelIdeal.Gen
open Idealize.ShloMosaic Idealize.ShloMosaic.TcCoe

variable (m : (ℓ : Loc nD τ sig) → Buf (Elt Ideal) ℓ)

theorem V_v0 (c : Dev nD) : V m c main_v0 = (m ((c : Thread nD τ).loc main_arg0) : S4x8192x3072.Idx → EReal) := by
  show StableHlo.after hostOps0 (fun b => m (c, b)) main_v0 = _
  rw [hostOps0, StableHlo.after_cons, StableHlo.after_cons, StableHlo.after_nil]
  rw [StableHlo.unary_result, StableHlo.nullary_result_ne _ _ _ _ (by decide)]
  rfl

theorem V_cst (c : Dev nD) : V m c main_cst = (fun i => Ideal.ofBits .f32 (lit0 (S4.rowMajor i)) : S4.Idx → EReal) := by
  show StableHlo.after hostOps0 (fun b => m (c, b)) main_cst = _
  rw [hostOps0, StableHlo.after_cons, StableHlo.after_cons, StableHlo.after_nil]
  rw [StableHlo.unary_result_ne _ _ _ _ _ _ (by decide), StableHlo.nullary_result]
  rfl

/-- A grid point's batch, head and query tile. -/
abbrev bat (t : Fin (cfg0 (F := Ideal)).N) : Fin 4 := grid0.coords t 0
abbrev hea (t : Fin (cfg0 (F := Ideal)).N) : Fin 4 := grid0.coords t 1
abbrev til (t : Fin (cfg0 (F := Ideal)).N) : Fin 16 := grid0.coords t 2

theorem word_low (n : ℕ) (h : n < 8192) : (BitVec.ofNat 32 n).toNat = n := by
  rw [BitVec.toNat_ofNat]; exact Nat.mod_eq_of_lt (by omega)

theorem head_word : ∀ h : Fin 4, (Scalar.addi 12#32 (BitVec.ofNat 32 h.val)).toNat = 12 + h.val
    ∧ (Scalar.addi 16#32 (BitVec.ofNat 32 h.val)).toNat = 16 + h.val ∧ (Scalar.addi 20#32 (BitVec.ofNat 32 h.val)).toNat = 20 + h.val := by decide

theorem index0 (i : grid0.Coords) : cc0_transform_0 i = ![(i 0).val, (i 2).val, 12 + (i 1).val] := by
  have h0 : (i 0).val < 4 := (i 0).isLt
  have h2 : (i 2).val < 16 := (i 2).isLt
  unfold cc0_transform_0; dsimp only
  rw [word_low _ (by omega), word_low _ (by omega), (head_word (i 1)).1]
theorem index1 (i : grid0.Coords) : cc0_transform_1 i = ![(i 0).val, 0, 16 + (i 1).val] := by
  have h0 : (i 0).val < 4 := (i 0).isLt
  unfold cc0_transform_1; dsimp only
  rw [word_low _ (by omega), (head_word (i 1)).2.1]; rfl
theorem index2 (i : grid0.Coords) : cc0_transform_2 i = ![(i 0).val, 0, 20 + (i 1).val] := by
  have h0 : (i 0).val < 4 := (i 0).isLt
  unfold cc0_transform_2; dsimp only
  rw [word_low _ (by omega), (head_word (i 1)).2.2]; rfl
theorem index6 (i : grid0.Coords) : cc0_transform_6 i = ![(i 0).val, (i 2).val, (i 1).val] := by
  have h0 : (i 0).val < 4 := (i 0).isLt
  have h1 : (i 1).val < 4 := (i 1).isLt
  have h2 : (i 2).val < 16 := (i 2).isLt
  unfold cc0_transform_6; dsimp only
  rw [word_low _ (by omega), word_low _ (by omega), word_low _ (by omega)]

theorem shown_q (c : Dev nD) (t : Fin (cfg0 (F := Ideal)).N) (r : Fin 512) (d : Fin 128) :
    shown m c 0 t (ix3 0 r d) = (m ((c : Thread nD τ).loc main_arg0) : S4x8192x3072.Idx → EReal)
      (ix3 (bat t) ⟨512 * (til t).val + r.val, by have := (til t).isLt; omega⟩ ⟨1536 + ((hea t).val * 128 + d.val), by have := (hea t).isLt; omega⟩) := by
  rw [← V_v0 m c]
  show V m c main_v0 _ = _
  congr 1
  funext a
  apply Fin.ext
  match a with
  | 0 => show cc0_transform_0 (grid0.coords t) 0 * 1 + 1 * 0 = _; rw [index0]; show (bat t).val * 1 + 1 * 0 = (bat t).val; omega
  | 1 => show cc0_transform_0 (grid0.coords t) 1 * 512 + 1 * r.val = _; rw [index0]; show (til t).val * 512 + 1 * r.val = 512 * (til t).val + r.val; omega
  | 2 => show cc0_transform_0 (grid0.coords t) 2 * 128 + 1 * d.val = _; rw [index0]; show (12 + (hea t).val) * 128 + 1 * d.val = 1536 + ((hea t).val * 128 + d.val); omega

theorem shown_k (c : Dev nD) (t : Fin (cfg0 (F := Ideal)).N) (n : Fin 8192) (d : Fin 128) :
    shown m c 1 t (ix3 0 n d) = (m ((c : Thread nD τ).loc main_arg0) : S4x8192x3072.Idx → EReal)
      (ix3 (bat t) n ⟨2048 + ((hea t).val * 128 + d.val), by have := (hea t).isLt; omega⟩) := by
  rw [← V_v0 m c]
  show V m c main_v0 _ = _
  congr 1
  funext a
  apply Fin.ext
  match a with
  | 0 => show cc0_transform_1 (grid0.coords t) 0 * 1 + 1 * 0 = _; rw [index1]; show (bat t).val * 1 + 1 * 0 = (bat t).val; omega
  | 1 => show cc0_transform_1 (grid0.coords t) 1 * 8192 + 1 * n.val = _; rw [index1]; show 0 * 8192 + 1 * n.val = n.val; omega
  | 2 => show cc0_transform_1 (grid0.coords t) 2 * 128 + 1 * d.val = _; rw [index1]; show (16 + (hea t).val) * 128 + 1 * d.val = 2048 + ((hea t).val * 128 + d.val); omega

theorem shown_v (c : Dev nD) (t : Fin (cfg0 (F := Ideal)).N) (n : Fin 8192) (d : Fin 128) :
    shown m c 2 t (ix3 0 n d) = (m ((c : Thread nD τ).loc main_arg0) : S4x8192x3072.Idx → EReal)
      (ix3 (bat t) n ⟨2560 + ((hea t).val * 128 + d.val), by have := (hea t).isLt; omega⟩) := by
  rw [← V_v0 m c]
  show V m c main_v0 _ = _
  congr 1
  funext a
  apply Fin.ext
  match a with
  | 0 => show cc0_transform_2 (grid0.coords t) 0 * 1 + 1 * 0 = _; rw [index2]; show (bat t).val * 1 + 1 * 0 = (bat t).val; omega
  | 1 => show cc0_transform_2 (grid0.coords t) 1 * 8192 + 1 * n.val = _; rw [index2]; show 0 * 8192 + 1 * n.val = n.val; omega
  | 2 => show cc0_transform_2 (grid0.coords t) 2 * 128 + 1 * d.val = _; rw [index2]; show (20 + (hea t).val) * 128 + 1 * d.val = 2560 + ((hea t).val * 128 + d.val); omega

theorem shown_weight (c : Dev nD) (t : Fin (cfg0 (F := Ideal)).N) :
    weight (shown m c 3 t) = (m ((c : Thread nD τ).loc main_arg1) : S1x1.Idx → EReal) (ix2 0 0) := by
  rw [← V_arg1 m c]
  show V m c main_arg1 _ = _
  congr 1
  funext a
  apply Fin.ext
  match a with
  | 0 => rfl
  | 1 => rfl

theorem shown_slope (c : Dev nD) (t : Fin (cfg0 (F := Ideal)).N) :
    slopeAt (grid0.coords t) (shown m c 4 t) = ((slope (hea t).val : ℝ) : EReal) := by
  rw [← slope_word]
  have e : slopeAt (grid0.coords t) (shown m c 4 t) = V m c main_cst (ix1 (hea t)) := by
    show V m c main_cst _ = _
    congr 1
    funext a
    apply Fin.ext
    match a with
    | 0 => show 0 * 4 + 1 * (hea t).val = (hea t).val; omega
  rw [e, V_cst]
  have h : ∀ h : Fin 4, lit0 (S4.rowMajor (ix1 h)) = slopeWord h := fun h => by fin_cases h <;> rfl
  exact congrArg (Ideal.ofBits .f32) (h (hea t))

theorem shown_gain (c : Dev nD) (t : Fin (cfg0 (F := Ideal)).N) (d : Fin 128) :
    shown m c 5 t (ix2 0 d) = (m ((c : Thread nD τ).loc main_arg2) : S1x128.Idx → EReal) (ix2 0 d) := by
  rw [← V_arg2 m c]
  show V m c main_arg2 _ = _
  congr 1
  funext a
  apply Fin.ext
  match a with
  | 0 => rfl
  | 1 => show 0 * 128 + 1 * d.val = d.val; omega

end Cert.Proof.KI

end
-- ==== Proof.KI.Value.lean ====
/- The kernel's result: at every grid point the attention's block, so that the array ends holding the attention. -/
module

public import proofs.«01_k».proof.Proof.KI.Shown
public import Idealize.ShloMosaic.Lib.Pipeline.Value
public import Idealize.ShloMosaic.Lib.Pipeline.Covers

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The arguments. -/
abbrev argX (c : Dev nD) : S4x8192x3072.Idx → EReal := m ((c : Thread nD τ).loc main_arg0)
abbrev argL (c : Dev nD) : S1x1.Idx → EReal := m ((c : Thread nD τ).loc main_arg1)
abbrev argG (c : Dev nD) : S1x128.Idx → EReal := m ((c : Thread nD τ).loc main_arg2)

/-- The attention's block of a grid point. -/
def block (c : Dev nD) (t : Fin (cfg0 (F := Ideal)).N) : Vec Ideal S1x512x128 .f32 := fun y =>
  resultAt (argX m c) (argL m c) (argG m c) (bat t) (512 * (til t).val + (y 1).val) (hea t).val (y 2)

variable {m}

/-- What the reals of a grid point are. -/
abbrev realsAt (m : (ℓ : Loc nD τ sig) → Buf (Elt Ideal) ℓ) (c : Dev nD) (t : Fin (cfg0 (F := Ideal)).N) : Reals :=
  tileReals (reals (argX m c) (bat t)) (hea t).val (til t).val (til t).isLt

theorem queries_at {c : Dev nD} (hx : Finite (argX m c)) (t : Fin (cfg0 (F := Ideal)).N) : IsQ (realsAt m c t) (k0_pay19 (shown m c 0 t)) :=
  queries_real _ _ _ _ _ fun r d => (shown_q m c t r d).trans (reals_eq hx (bat t) _ _)

theorem tile_at (x : Vec Ideal S1x8192x128 .bf16) (j : ℕ) (hj : j < 16) (r : Fin 512) (d : Fin 128) :
    tile x j (ix3 0 r d) = x (ix3 0 ⟨512 * j + r.val, by omega⟩ d) := by
  unfold tile
  congr 1
  funext a
  apply Fin.ext
  match a with
  | 0 => rfl
  | 1 => show (j * 512 + r.val) % 8192 = 512 * j + r.val; omega
  | 2 => rfl

theorem keys_at {c : Dev nD} (hx : Finite (argX m c)) (t : Fin (cfg0 (F := Ideal)).N) (j : ℕ) (hj : j ≤ (realsAt m c t).qi) :
    IsK (realsAt m c t) j (tile (shown m c 1 t) j) := fun r d =>
  (tile_at _ j (hj.trans_lt (til t).isLt) r d).trans ((shown_k m c t _ d).trans (reals_eq hx (bat t) _ _))

theorem values_at {c : Dev nD} (hx : Finite (argX m c)) (t : Fin (cfg0 (F := Ideal)).N) (j : ℕ) (hj : j ≤ (realsAt m c t).qi) :
    IsV (realsAt m c t) j (tile (shown m c 2 t) j) := fun r d =>
  (tile_at _ j (hj.trans_lt (til t).isLt) r d).trans ((shown_v m c t _ d).trans (reals_eq hx (bat t) _ _))

theorem end_at {c : Dev nD} (hl : Finite (argL m c)) (t : Fin (cfg0 (F := Ideal)).N) (M : Fin 1024 → ℝ) (A : Vec Ideal S1024x256 .f32)
    (hA : IsSum (realsAt m c t) M 0 A) : finish A (weight (shown m c 3 t)) (shown m c 5 t) = block m c t := by
  funext y
  obtain ⟨z, r, d, rfl⟩ : ∃ (z : Fin 1) (r : Fin 512) (d : Fin 128), y = ix3 z r d := ⟨y 0, y 1, y 2, eq_ix3 y⟩
  obtain rfl : z = 0 := Subsingleton.elim _ _
  rw [show weight (shown m c 3 t) = (((argL m c (ix2 0 0)).toReal : ℝ) : EReal) from
    (shown_weight m c t).trans (EReal.coe_toReal (hl (ix2 0 0)).1 (hl (ix2 0 0)).2).symm]
  rw [finish_read _ _ _ _ M A hA]
  unfold block resultAt
  congr 1
  funext d
  exact shown_gain m c t d

theorem because {c : Dev nD} (hx : Finite (argX m c)) (hl : Finite (argL m c)) (t : Fin (cfg0 (F := Ideal)).N) : Because m (· = block m c t) c t := by
  refine ⟨Head (realsAt m c t), ?_⟩
  rw [slope_real (reals (argX m c) (bat t)) _ _ (til t).isLt _ (shown_slope m c t)]
  exact ⟨starts (queries_at hx t) (keys_at hx t) _ rfl, steps (queries_at hx t) (keys_at hx t) (values_at hx t) _ rfl,
    ends (queries_at hx t) (keys_at hx t) (values_at hx t) _ rfl _ _ _ (end_at hl t)⟩

/-- The grid point's triple with the output at the attention's block. -/
theorem point_block {c : Dev nD} (hx : Finite (argX m c)) (hl : Finite (argL m c)) (t : Fin (cfg0 (F := Ideal)).N) :
    before m (block m) c t ⊢ wp frame (wpE (defs₀ (F := Ideal)) Variants.nat c none) Set.univ (bodyAt0 t) (fun _ =>
      iprop((data m (block m) 0 c).Φ t.succ ∗ (data m (block m) 0 c).owesAt () t.succ
    ∗ owns (c : Thread nD τ) (st0 t) fullShare ((data m (block m) 0 c).after 0 t)
    ∗ owns (c : Thread nD τ) (st1 t) fullShare ((data m (block m) 0 c).after 1 t)
    ∗ owns (c : Thread nD τ) (st2 t) fullShare ((data m (block m) 0 c).after 2 t)
    ∗ owns (c : Thread nD τ) (st3 t) fullShare ((data m (block m) 0 c).after 3 t)
    ∗ owns (c : Thread nD τ) (st4 t) fullShare ((data m (block m) 0 c).after 4 t)
    ∗ owns (c : Thread nD τ) (st5 t) fullShare ((data m (block m) 0 c).after 5 t)
    ∗ owns (c : Thread nD τ) (st6 t) fullShare ((data m (block m) 0 c).after 6 t))) := by
  refine (point m (block m) c t _ (because hx hl t)).trans (wp_mono _ _ _ fun _ => ?_)
  unfold left
  rw [after_6]
  iintro ⟨HP, Ho, H0, H1, H2, H3, H4, H5, %d, %hd, H6⟩
  subst hd
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem entered (c : Dev nD) (t : Fin (cfg0 (F := Ideal)).N) :
    iprop((data m (block m) 0 c).Φ t.castSucc ∗ (data m (block m) 0 c).owesAt () t.castSucc
    ∗ (∃ d, owns (c : Thread nD τ) (st0 t) fullShare ((data m (block m) 0 c).before 0 t d))
    ∗ (∃ d, owns (c : Thread nD τ) (st1 t) fullShare ((data m (block m) 0 c).before 1 t d))
    ∗ (∃ d, owns (c : Thread nD τ) (st2 t) fullShare ((data m (block m) 0 c).before 2 t d))
    ∗ (∃ d, owns (c : Thread nD τ) (st3 t) fullShare ((data m (block m) 0 c).before 3 t d))
    ∗ (∃ d, owns (c : Thread nD τ) (st4 t) fullShare ((data m (block m) 0 c).before 4 t d))
    ∗ (∃ d, owns (c : Thread nD τ) (st5 t) fullShare ((data m (block m) 0 c).before 5 t d))
    ∗ (∃ d, owns (c : Thread nD τ) (st6 t) fullShare ((data m (block m) 0 c).before 6 t d))) ⊢ before m (block m) c t := by
  unfold before
  iintro ⟨HP, Ho, H0, H1, H2, H3, H4, H5, %d, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

theorem obligation_block {c : Dev nD} (hx : Finite (argX m c)) (hl : Finite (argL m c)) :
    BodyObligation (data m (block m) 0 c) (defs₀ (F := Ideal)) Variants.nat () Set.univ := fun t => by
  rw [bigSep_W0, bigSep_W0, row]
  exact triple_restated (point_block hx hl t) rfl (entered c t) fun _ => .rfl

variable (m) in
set_option backward.isDefEq.respectTransparency.types false in
theorem run_block (hx : ∀ c, Finite (argX m c)) (hl : ∀ c, Finite (argL m c)) : θ_run defs (onTc (τ := τ) (main (F := Ideal))) (s₀ m ρ)
    (fun r => Pipeline.FramePost cfgs (data m (block m)) (0 : Fin 1) (V m) r ∧ r.2.sem = fun _ => 0) :=
  Pipeline.θ_run_frame_shared (Q' := _) cfgs (data m (block m)) (0 : Fin 1) launch₀0 defs₀ Variants.nat m ρ main
    (hbody := fun c => (obligation_block (hx c) (hl c)).loose) (hq := fun _ _ _ => rfl)
    (howed := fun _ _ => rfl) (V := V m) (hmain := hmain m) (hA := data_A m (block m)) (hΦ := fun _ _ => rfl)

/-- The attention's whole result. -/
def attention (m : (ℓ : Loc nD τ sig) → Buf (Elt Ideal) ℓ) (c : Dev nD) : S4x8192x512.Idx → EReal := fun i =>
  resultAt (argX m c) (argL m c) (argG m c) (i 0) (i 1).val ((i 2).val / 128) ⟨(i 2).val % 128, by omega⟩

theorem place (t : Fin (cfg0 (F := Ideal)).N) (r : Fin 512) (d : Fin 128) :
    (win0_6.blk t).view.emb (ix3 0 r d) = (ix3 (bat t) ⟨512 * (til t).val + r.val, by have := (til t).isLt; omega⟩ ⟨(hea t).val * 128 + d.val, by have := (hea t).isLt; omega⟩ : S4x8192x512.Idx) := by
  funext a
  apply Fin.ext
  match a with
  | 0 => show cc0_transform_6 (grid0.coords t) 0 * 1 + 1 * 0 = _; rw [index6]; show (bat t).val * 1 + 1 * 0 = (bat t).val; omega
  | 1 => show cc0_transform_6 (grid0.coords t) 1 * 512 + 1 * r.val = _; rw [index6]; show (til t).val * 512 + 1 * r.val = 512 * (til t).val + r.val; omega
  | 2 => show cc0_transform_6 (grid0.coords t) 2 * 128 + 1 * d.val = _; rw [index6]; show (hea t).val * 128 + 1 * d.val = (hea t).val * 128 + d.val; omega

theorem point_of (b h : Fin 4) (q : Fin 16) : ∃ t : Fin (cfg0 (F := Ideal)).N, bat t = b ∧ hea t = h ∧ til t = q := by
  obtain ⟨t, ht⟩ := Pipeline.Grid.coords_surjective grid0 (fun a => match a with | 0 => b | 1 => h | 2 => q)
  exact ⟨t, congrFun ht 0, congrFun ht 1, congrFun ht 2⟩

theorem flushed_eq (c : Dev nD) (t : Fin (cfg0 (F := Ideal)).N) :
    (data m (block m) 0 c).flushed 6 t = (win0_6.blk t).view.read (Elt Ideal) (attention m c) := by
  show (cfg0.win 6).cut (grid0.coords t) ((data m (block m) 0 c).after 6 t) = _
  rw [after_6]
  funext y
  obtain ⟨z, r, d, rfl⟩ : ∃ (z : Fin 1) (r : Fin 512) (d : Fin 128), y = ix3 z r d := ⟨y 0, y 1, y 2, eq_ix3 y⟩
  obtain rfl : z = 0 := Subsingleton.elim _ _
  show block m c t (ix3 0 r d) = attention m c ((win0_6.blk t).view.emb (ix3 0 r d))
  rw [place]
  unfold block attention
  have e1 : ((hea t).val * 128 + d.val) / 128 = (hea t).val := by omega
  have e2 : (⟨((hea t).val * 128 + d.val) % 128, by omega⟩ : Fin 128) = d := Fin.ext (by show _ % 128 = _; omega)
  show resultAt _ _ _ (bat t) (512 * (til t).val + r.val) (hea t).val d = resultAt _ _ _ (bat t) (512 * (til t).val + r.val) (((hea t).val * 128 + d.val) / 128) ⟨((hea t).val * 128 + d.val) % 128, _⟩
  rw [e1, e2]

theorem cover (i : S4x8192x512.Idx) :
    ∃ t : Fin (cfg0 (F := Ideal)).N, ((cfg0 (F := Ideal)).win 6).flush t = true ∧ i ∈ (((cfg0 (F := Ideal)).win 6).blk t).view.set := by
  obtain ⟨b, q, c, rfl⟩ : ∃ (b : Fin 4) (q : Fin 8192) (c : Fin 512), i = ix3 b q c := ⟨i 0, i 1, i 2, eq_ix3 i⟩
  obtain ⟨t, h0, h1, h2⟩ := point_of b ⟨c.val / 128, by omega⟩ ⟨q.val / 512, by omega⟩
  refine ⟨t, flush0_6 t, ?_⟩
  have e := place t ⟨q.val % 512, by omega⟩ ⟨c.val % 128, by omega⟩
  have e' : (ix3 b q c : S4x8192x512.Idx) = (win0_6.blk t).view.emb (ix3 0 ⟨q.val % 512, by omega⟩ ⟨c.val % 128, by omega⟩) := by
    rw [e, h0]
    congr 1
    · apply Fin.ext; show q.val = 512 * (til t).val + q.val % 512; rw [h2]; show q.val = 512 * (q.val / 512) + q.val % 512; omega
    · apply Fin.ext; show c.val = (hea t).val * 128 + c.val % 128; rw [h1]; show c.val = (c.val / 128) * 128 + c.val % 128; omega
  rw [e']
  exact Finset.mem_map_of_mem _ (Finset.mem_univ _)

variable (m) in
theorem final (c : Dev nD) : (data m (block m) 0 c).arrAt 6 (cfg0 (F := Ideal)).N = attention m c :=
  (data m (block m) 0 c).arrAt_eq_of_cover 6 (attention m c) (fun t _ => flushed_eq c t) cover

/-- The kernel's run: the result is the attention, the arguments are left as they were. -/
theorem value (m : (ℓ : Loc nD τ sig) → Buf (Elt Ideal) ℓ) (ρ : Dev nD → PrngReg) (hx : ∀ c, Finite (argX m c)) (hl : ∀ c, Finite (argL m c)) :
    θ_run defs (onTc (τ := τ) (main (F := Ideal))) ⟨m, fun _ => 0, ρ⟩ (fun r => ∀ c : Dev nD,
      r.2.mem ((c.tc : Thread nD τ).loc main_v1) = attention m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 6).trans (final m c),
      ((h.1 c).2 main_arg0 (Pipeline.mem_restRefs_of main_arg0 (by decide) (show ∀ w : Fin 7, (spec0 w).arr.view.ref ≠ main_arg0 by decide))).trans (V_arg0 m c),
      ((h.1 c).1 3).trans (((data m (block m) 0 c).arrAt_in 3 rfl _).trans (V_arg1 m c)),
      ((h.1 c).1 5).trans (((data m (block m) 0 c).arrAt_in 5 rfl _).trans (V_arg2 m c))⟩) (run_block m ρ hx hl)

end Cert.Proof.KI

end
-- ==== Proof.Out.Row.lean ====
/- The layer's last call on one row: the gated merge of the two branches, the output projection, the norm and the
   residual. -/
module

public import Idealize.ShloMosaic.PureOps.Ideal
public import Idealize.ShloMosaic.Lib.Pointwise
public import Mathlib.Algebra.BigOperators.Fin

@[expose] public section

noncomputable section

namespace Cert.Proof.Out

open Idealize.ShloMosaic
open scoped BigOperators

/-- A row over the root of its mean square, scaled by the gains. -/
def rowNorm (v g : Fin 1024 → EReal) (c : Fin 1024) : EReal :=
  v c * Ideal.rsqrt (Ideal.div (∑ j, v j * v j) (Ideal.ofBits .f32 0x44800000#32) + Ideal.ofBits .f32 0x358637BD#32) * g c

/-- The logistic function. -/
def gate (x : EReal) : EReal := Ideal.logistic x

/-- A branch's row under its gate `z`, projected. -/
def branch (v z : Fin 512 → EReal) (w : Fin 512 → Fin 1024 → EReal) (c : Fin 1024) : EReal :=
  ∑ j, v j * (z j * gate (z j)) * w j c

/-- The two branches' projections, merged by the channels' gates. -/
def merge (sb df zs zd : Fin 512 → EReal) (gs gd : Fin 1024 → EReal) (ws wd : Fin 512 → Fin 1024 → EReal) (c : Fin 1024) : EReal :=
  gate (gs c) * branch sb zs ws c + gate (gd c) * branch df zd wd c

/-- The row that the layer returns. -/
def outRow (x : Fin 1024 → EReal) (sb df zs zd : Fin 512 → EReal) (gs gd : Fin 1024 → EReal) (ws wd : Fin 512 → Fin 1024 → EReal)
    (wo : Fin 1024 → Fin 1024 → EReal) (gp : Fin 1024 → EReal) (c : Fin 1024) : EReal :=
  x c + rowNorm (fun e => ∑ j, merge sb df zs zd gs gd ws wd j * wo j e) gp c

/-- The normed row times a matrix. -/
def proj {n : ℕ} (x g : Fin 1024 → EReal) (w : Fin 1024 → Fin n → EReal) (e : Fin n) : EReal := ∑ j, rowNorm x g j * w j e

/-- The call's result at row `n` and column `c`, from its ten arguments. -/
def whole (x : (⟨3, ![4, 8192, 1024]⟩ : Shape).Idx → EReal) (sb df : (⟨3, ![4, 8192, 512]⟩ : Shape).Idx → EReal)
    (g : (⟨2, ![1, 1024]⟩ : Shape).Idx → EReal) (w : (⟨3, ![1, 1024, 6144]⟩ : Shape).Idx → EReal) (b : (⟨2, ![1, 2048]⟩ : Shape).Idx → EReal)
    (ws wd : (⟨3, ![1, 512, 1024]⟩ : Shape).Idx → EReal) (wo : (⟨3, ![1, 1024, 1024]⟩ : Shape).Idx → EReal)
    (gp : (⟨2, ![1, 1024]⟩ : Shape).Idx → EReal) (n : Fin 32768) (c : Fin 1024) : EReal :=
  let xr : Fin 1024 → EReal := fun j => x (ix3 ⟨n.val / 8192, by omega⟩ ⟨n.val % 8192, by omega⟩ j)
  let p : Fin 6144 → EReal := proj xr (fun j => g (ix2 0 j)) (fun j e => w (ix3 0 j e))
  outRow xr (fun j => sb (ix3 ⟨n.val / 8192, by omega⟩ ⟨n.val % 8192, by omega⟩ j)) (fun j => df (ix3 ⟨n.val / 8192, by omega⟩ ⟨n.val % 8192, by omega⟩ j))
    (fun e => p ⟨1536 + e.val, by omega⟩) (fun e => p ⟨3584 + e.val, by omega⟩)
    (fun e => p ⟨4096 + e.val, by omega⟩ + b (ix2 0 ⟨e.val, by omega⟩)) (fun e => p ⟨4096 + (1024 + e.val), by omega⟩ + b (ix2 0 ⟨1024 + e.val, by omega⟩))
    (fun j c => ws (ix3 0 j c)) (fun j c => wd (ix3 0 j c)) (fun j c => wo (ix3 0 j c)) (fun j => gp (ix2 0 j)) c

end Cert.Proof.Out

end
-- ==== Proof.Out.Block.lean ====
/- The last call's block at a grid point, read at an index: a row of the merge. -/
module

public import proofs.«01_k».proof.Proof.Gen.Kernel2Ideal.Value
public import proofs.«01_k».proof.Proof.Out.Row
public import Idealize.ShloMosaic.Lib.Pipeline.ValueKit.Basic
public import Idealize.ShloMosaic.Lib.Pointwise

@[expose] public section

set_option maxRecDepth 16384

noncomputable section

namespace Cert.Proof.Out

open Cert.Kernel2Ideal Cert.Kernel2Ideal.Gen
open Idealize.ShloMosaic Idealize.ShloMosaic.TcCoe
open scoped BigOperators

/-- A row of a block of 1024 columns, and of 512. -/
abbrev row (x : Vec Ideal S512x1024 .f32) (r : Fin 512) : Fin 1024 → EReal := fun j => x (ix2 r j)
abbrev half (x : Vec Ideal S512x512 .f32) (r : Fin 512) : Fin 512 → EReal := fun j => x (ix2 r j)
/-- A vector kept as one row. -/
abbrev line (x : Vec Ideal S1x1024 .f32) : Fin 1024 → EReal := fun j => x (ix2 0 j)

theorem pay2_read (x : Vec Ideal S512x1024 .f32) (r : Fin 512) (c : Fin 1024) : k0_pay2 x (ix2 r c) = x (ix2 r c) := by
  pointwise [k0_pay2]

theorem pay3_read (x : Vec Ideal S512x1024 .f32) (g : Vec Ideal S1x1024 .f32) (w : Vec Ideal S1024x3072 .bf16) (r : Fin 512) (e : Fin 3072) :
    k0_pay3 x g w (ix2 r e) = proj (row x r) (line g) (fun j e => w (ix2 j e)) e := by
  pointwise [k0_pay3, k0_pay2]
  rfl

theorem pay4_read (x : Vec Ideal S512x1024 .f32) (g : Vec Ideal S1x1024 .f32) (w : Vec Ideal S1024x3072 .bf16) (r : Fin 512) (e : Fin 512) :
    k0_pay4 x g w (ix2 r e) = proj (row x r) (line g) (fun j e => w (ix2 j e)) (⟨512 + e.val, by omega⟩ : Fin 3072) := by
  pointwise [k0_pay4]
  exact pay3_read x g w r ⟨512 + e.val, by omega⟩

theorem pay8_read (x : Vec Ideal S512x1024 .f32) (g : Vec Ideal S1x1024 .f32) (w : Vec Ideal S1024x3072 .bf16) (r : Fin 512) (e : Fin 512) :
    k0_pay8 x g w (ix2 r e) = gate (proj (row x r) (line g) (fun j e => w (ix2 j e)) (⟨512 + e.val, by omega⟩ : Fin 3072)) := by
  pointwise [k0_pay8]
  rw [pay4_read]; rfl

theorem pay5_read (x : Vec Ideal S512x1024 .f32) (g : Vec Ideal S1x1024 .f32) (w : Vec Ideal S1024x3072 .bf16) (b : Vec Ideal S1x2048 .f32) (r : Fin 512) (e : Fin 2048) :
    k0_pay5 x g w b (ix2 r e) = gate (proj (row x r) (line g) (fun j e => w (ix2 j e)) (⟨1024 + e.val, by omega⟩ : Fin 3072) + b (ix2 0 e)) := by
  pointwise [k0_pay5]
  rw [pay3_read]; rfl

theorem pay6_read (x : Vec Ideal S512x1024 .f32) (g : Vec Ideal S1x1024 .f32) (w : Vec Ideal S1024x3072 .bf16) (s : Vec Ideal S512x512 .f32) (ws : Vec Ideal S512x1024 .bf16) (r : Fin 512) (c : Fin 1024) :
    k0_pay6 x g w s ws (ix2 r c) = branch (half s r) (fun e => proj (row x r) (line g) (fun j e => w (ix2 j e)) (⟨e.val, by omega⟩ : Fin 3072)) (fun j c => ws (ix2 j c)) c := by
  pointwise [k0_pay6]
  unfold branch
  refine Finset.sum_congr rfl fun j _ => ?_
  rw [pay3_read]; rfl

theorem pay7_read (x : Vec Ideal S512x512 .f32) (r : Fin 512) (c : Fin 512) : k0_pay7 x (ix2 r c) = x (ix2 r c) := by
  pointwise [k0_pay7]

/-- The merge as the block computes it from its parts. -/
theorem pay1_read (x : FVec Ideal S512x1024 .f32) (z : FVec Ideal S512x512 .f32) (gt : FVec Ideal S512x2048 .f32) (ys : FVec Ideal S512x1024 .f32) (d : FVec Ideal S512x512 .f32)
    (gz : FVec Ideal S512x512 .f32) (wd : Vec Ideal S512x1024 .bf16) (wo : Vec Ideal S1024x1024 .bf16) (gp : Vec Ideal S1x1024 .f32) (r : Fin 512) (c : Fin 1024) :
    k0_pay1 x z gt ys d gz wd wo gp (ix2 r c)
      = x (ix2 r c) + rowNorm (fun e => ∑ j : Fin 1024, (gt (ix2 r ⟨j.val, by omega⟩) * ys (ix2 r j)
          + gt (ix2 r ⟨1024 + j.val, by omega⟩) * ∑ k : Fin 512, d (ix2 r k) * (z (ix2 r k) * gz (ix2 r k)) * wd (ix2 k j)) * wo (ix2 j e)) (line gp) c := by
  pointwise [k0_pay1]
  rfl

/-- The block that a grid point leaves, row by row. -/
theorem block_read (x0 : Vec Ideal S512x1024 .f32) (x1 x2 : Vec Ideal S512x512 .f32) (x3 : Vec Ideal S1x1024 .f32) (x4 : Vec Ideal S1024x3072 .bf16) (x5 : Vec Ideal S1x2048 .f32)
    (x6 x7 : Vec Ideal S512x1024 .bf16) (x8 : Vec Ideal S1024x1024 .bf16) (x9 : Vec Ideal S1x1024 .f32) (r : Fin 512) (c : Fin 1024) :
    out0_10 x0 x1 x2 x3 x4 x5 x6 x7 x8 x9 (ix2 r c)
      = outRow (row x0 r) (half x1 r) (half x2 r)
          (fun e => proj (row x0 r) (line x3) (fun j e => x4 (ix2 j e)) (⟨e.val, by omega⟩ : Fin 3072))
          (fun e => proj (row x0 r) (line x3) (fun j e => x4 (ix2 j e)) (⟨512 + e.val, by omega⟩ : Fin 3072))
          (fun e => proj (row x0 r) (line x3) (fun j e => x4 (ix2 j e)) (⟨1024 + e.val, by omega⟩ : Fin 3072) + x5 (ix2 0 ⟨e.val, by omega⟩))
          (fun e => proj (row x0 r) (line x3) (fun j e => x4 (ix2 j e)) (⟨1024 + (1024 + e.val), by omega⟩ : Fin 3072) + x5 (ix2 0 ⟨1024 + e.val, by omega⟩))
          (fun j c => x6 (ix2 j c)) (fun j c => x7 (ix2 j c)) (fun j c => x8 (ix2 j c)) (line x9) c := by
  unfold out0_10
  rw [View.canon_cons_unit_lit _ _ _ (by decide)]
  rw [show View.ld x0 r0_0 = x0 from View.ld_unit_lit _ _ (by decide), show View.ld x3 r0_1 = x3 from View.ld_unit_lit _ _ (by decide),
    show View.ld x4 r0_2 = x4 from View.ld_unit_lit _ _ (by decide), show View.ld x5 r0_3 = x5 from View.ld_unit_lit _ _ (by decide),
    show View.ld x1 r0_4 = x1 from View.ld_unit_lit _ _ (by decide), show View.ld x2 r0_4 = x2 from View.ld_unit_lit _ _ (by decide),
    show View.ld x6 r0_0 = x6 from View.ld_unit_lit _ _ (by decide), show View.ld x7 r0_0 = x7 from View.ld_unit_lit _ _ (by decide),
    show View.ld x8 r0_5 = x8 from View.ld_unit_lit _ _ (by decide), show View.ld x9 r0_1 = x9 from View.ld_unit_lit _ _ (by decide)]
  rw [pay1_read]
  simp only [pay2_read, pay4_read, pay5_read, pay6_read, pay7_read, pay8_read]
  rfl

end Cert.Proof.Out

end
-- ==== Proof.Out.Shown.lean ====
/- What the last call's windows show: the rows of the arguments as the host lays them out, at the grid point's block. -/
module

public import proofs.«01_k».proof.Proof.Gen.Kernel2Ideal.Value
public import proofs.«01_k».proof.Proof.Out.Block

@[expose] public section

set_option maxRecDepth 16384

noncomputable section

namespace Cert.Proof.Out

open Cert.Kernel2Ideal Cert.Kernel2Ideal.Gen
open Idealize.ShloMosaic Idealize.ShloMosaic.TcCoe

section
variable {F : FTy → Type} [FloatOps F]

/-- The gates' columns of the input projection, side by side. -/
def columns (w : FVec F S1x1024x6144 .f32) : FVec F S1024x3072 .bf16 :=
  truncf .bf16 (concatenate S1024x3072 1
    [⟨S1024x512, extractStridedSlice S1024x512 ![0, 1536] (shapeCast S1024x6144 w shapeCasts_S1x1024x6144_S1024x6144) slices_S1024x6144_S1024x512_0_1536⟩,
     ⟨S1024x512, extractStridedSlice S1024x512 ![0, 3584] (shapeCast S1024x6144 w shapeCasts_S1x1024x6144_S1024x6144) slices_S1024x6144_S1024x512_0_3584⟩,
     ⟨S1024x1024, extractStridedSlice S1024x1024 ![0, 4096] (shapeCast S1024x6144 w shapeCasts_S1x1024x6144_S1024x6144) slices_S1024x6144_S1024x1024_0_4096⟩,
     ⟨S1024x1024, extractStridedSlice S1024x1024 ![0, 5120] (shapeCast S1024x6144 w shapeCasts_S1x1024x6144_S1024x6144) slices_S1024x6144_S1024x1024_0_5120⟩]
    concatenates_S1024x512_S1024x512_S1024x1024_S1024x1024_S1024x3072_d1) bitsLt_bf16_f32

end

theorem columns_low (w : FVec Ideal S1x1024x6144 .f32) (j : Fin 1024) (e : Fin 512) :
    columns w (ix2 j (⟨e.val, by omega⟩ : Fin 3072)) = w (ix3 0 j ⟨1536 + e.val, by omega⟩) := by
  pointwise [columns]

theorem columns_high (w : FVec Ideal S1x1024x6144 .f32) (j : Fin 1024) (e : Fin 512) :
    columns w (ix2 j (⟨512 + e.val, by omega⟩ : Fin 3072)) = w (ix3 0 j ⟨3584 + e.val, by omega⟩) := by
  pointwise [columns]

theorem columns_gate (w : FVec Ideal S1x1024x6144 .f32) (j : Fin 1024) (e : Fin 2048) :
    columns w (ix2 j (⟨1024 + e.val, by omega⟩ : Fin 3072)) = w (ix3 0 j ⟨4096 + e.val, by omega⟩) := by
  pointwise [columns]
  rw [dif_neg (by omega), dif_neg (by omega)]
  split
  · exact congrArg w (congrArg (ix3 0 j) (Fin.ext (by show 4096 + (1024 + e.val - 512 - 512) = 4096 + e.val; omega)))
  · exact congrArg w (congrArg (ix3 0 j) (Fin.ext (by show 5120 + (1024 + e.val - 512 - 512 - 1024) = 4096 + e.val; omega)))

variable (m : (ℓ : Loc nD τ sig) → Buf (Elt Ideal) ℓ)

set_option maxHeartbeats 4000000 in
theorem V_v12 (c : Dev nD) : V m c main_v12 = (columns (F := Ideal) (m ((c : Thread nD τ).loc main_arg4)) : S1024x3072.Idx → EReal) := by
  show StableHlo.after hostOps0 (fun b => m (c, b)) main_v12 = _
  after_results_simp
  rfl

theorem V_v13 (c : Dev nD) : V m c main_v13 = shapeCast S32768x1024 (m ((c : Thread nD τ).loc main_arg0) : S4x8192x1024.Idx → EReal) shapeCasts_S4x8192x1024_S32768x1024 := by
  show StableHlo.after hostOps0 (fun b => m (c, b)) main_v13 = _
  after_results_simp
  rfl

theorem V_v14 (c : Dev nD) : V m c main_v14 = shapeCast S32768x512 (m ((c : Thread nD τ).loc main_arg1) : S4x8192x512.Idx → EReal) shapeCasts_S4x8192x512_S32768x512 := by
  show StableHlo.after hostOps0 (fun b => m (c, b)) main_v14 = _
  after_results_simp
  rfl
theorem V_v15 (c : Dev nD) : V m c main_v15 = shapeCast S32768x512 (m ((c : Thread nD τ).loc main_arg2) : S4x8192x512.Idx → EReal) shapeCasts_S4x8192x512_S32768x512 := by
  show StableHlo.after hostOps0 (fun b => m (c, b)) main_v15 = _
  after_results_simp
  rfl
theorem V_v17 (c : Dev nD) : V m c main_v17 = shapeCast S1x1024 (shapeCast S1024 (m ((c : Thread nD τ).loc main_arg3) : S1x1024.Idx → EReal) shapeCasts_S1x1024_S1024) shapeCasts_S1024_S1x1024 := by
  show StableHlo.after hostOps0 (fun b => m (c, b)) main_v17 = _
  after_results_simp
  rfl
theorem V_v19 (c : Dev nD) : V m c main_v19 = shapeCast S1x2048 (shapeCast S2048 (m ((c : Thread nD τ).loc main_arg5) : S1x2048.Idx → EReal) shapeCasts_S1x2048_S2048) shapeCasts_S2048_S1x2048 := by
  show StableHlo.after hostOps0 (fun b => m (c, b)) main_v19 = _
  after_results_simp
  rfl
theorem V_v21 (c : Dev nD) : V m c main_v21 = shapeCast S512x1024 (m ((c : Thread nD τ).loc main_arg6) : S1x512x1024.Idx → EReal) shapeCasts_S1x512x1024_S512x1024 := by
  show StableHlo.after hostOps0 (fun b => m (c, b)) main_v21 = _
  after_results_simp
  rfl
theorem V_v23 (c : Dev nD) : V m c main_v23 = shapeCast S512x1024 (m ((c : Thread nD τ).loc main_arg7) : S1x512x1024.Idx → EReal) shapeCasts_S1x512x1024_S512x1024 := by
  show StableHlo.after hostOps0 (fun b => m (c, b)) main_v23 = _
  after_results_simp
  rfl
theorem V_v25 (c : Dev nD) : V m c main_v25 = shapeCast S1024x1024 (m ((c : Thread nD τ).loc main_arg8) : S1x1024x1024.Idx → EReal) shapeCasts_S1x1024x1024_S1024x1024 := by
  show StableHlo.after hostOps0 (fun b => m (c, b)) main_v25 = _
  after_results_simp
  rfl
theorem V_v27 (c : Dev nD) : V m c main_v27 = shapeCast S1x1024 (shapeCast S1024 (m ((c : Thread nD τ).loc main_arg9) : S1x1024.Idx → EReal) shapeCasts_S1x1024_S1024) shapeCasts_S1024_S1x1024 := by
  show StableHlo.after hostOps0 (fun b => m (c, b)) main_v27 = _
  after_results_simp
  rfl

/-- A grid point's place among the rows. -/
abbrev place (t : Fin cfg0.N) : Fin 64 := grid0.coords t 0

/-- The row of the arrays that is row `r` of a grid point's block. -/
abbrev rowOf (t : Fin cfg0.N) (r : Fin 512) : Fin 32768 := ⟨512 * (place t).val + r.val, by have := (place t).isLt; omega⟩

theorem word_low (n : ℕ) (h : n < 64) : (BitVec.ofNat 32 n).toNat = n := by
  rw [BitVec.toNat_ofNat]; exact Nat.mod_eq_of_lt (by omega)

theorem index0 (i : grid0.Coords) : cc0_transform_0 i = ![(i 0).val, 0] := by
  have h0 : (i 0).val < 64 := (i 0).isLt
  unfold cc0_transform_0; dsimp only
  rw [word_low _ (by omega)]; rfl

theorem index1 (i : grid0.Coords) : cc0_transform_1 i = ![(i 0).val, 0] := by
  have h0 : (i 0).val < 64 := (i 0).isLt
  unfold cc0_transform_1; dsimp only
  rw [word_low _ (by omega)]; rfl

theorem index2 (i : grid0.Coords) : cc0_transform_2 i = ![(i 0).val, 0] := by
  have h0 : (i 0).val < 64 := (i 0).isLt
  unfold cc0_transform_2; dsimp only
  rw [word_low _ (by omega)]; rfl

theorem index10 (i : grid0.Coords) : cc0_transform_10 i = ![(i 0).val, 0] := by
  have h0 : (i 0).val < 64 := (i 0).isLt
  unfold cc0_transform_10; dsimp only
  rw [word_low _ (by omega)]; rfl

theorem flat_row (x : S4x8192x1024.Idx → EReal) (n : Fin 32768) (j : Fin 1024) :
    shapeCast S32768x1024 x shapeCasts_S4x8192x1024_S32768x1024 (ix2 n j) = x (ix3 ⟨n.val / 8192, by omega⟩ ⟨n.val % 8192, by omega⟩ j) := by
  pointwise []

theorem flat_half (x : S4x8192x512.Idx → EReal) (n : Fin 32768) (j : Fin 512) :
    shapeCast S32768x512 x shapeCasts_S4x8192x512_S32768x512 (ix2 n j) = x (ix3 ⟨n.val / 8192, by omega⟩ ⟨n.val % 8192, by omega⟩ j) := by
  pointwise []

theorem flat_line_1024 (x : S1x1024.Idx → EReal) (j : Fin 1024) :
    shapeCast S1x1024 (shapeCast S1024 x shapeCasts_S1x1024_S1024) shapeCasts_S1024_S1x1024 (ix2 0 j) = x (ix2 0 j) := by
  pointwise []

theorem flat_line_2048 (x : S1x2048.Idx → EReal) (j : Fin 2048) :
    shapeCast S1x2048 (shapeCast S2048 x shapeCasts_S1x2048_S2048) shapeCasts_S2048_S1x2048 (ix2 0 j) = x (ix2 0 j) := by
  pointwise []

theorem flat_matrix_512 (x : S1x512x1024.Idx → EReal) (i : Fin 512) (j : Fin 1024) :
    shapeCast S512x1024 x shapeCasts_S1x512x1024_S512x1024 (ix2 i j) = x (ix3 0 i j) := by
  pointwise []

theorem flat_matrix_1024 (x : S1x1024x1024.Idx → EReal) (i : Fin 1024) (j : Fin 1024) :
    shapeCast S1024x1024 x shapeCasts_S1x1024x1024_S1024x1024 (ix2 i j) = x (ix3 0 i j) := by
  pointwise []

variable (c : Dev nD) (t : Fin cfg0.N)

theorem shown_x (r : Fin 512) (j : Fin 1024) :
    iblk m c 0 t (ix2 r j) = (m ((c : Thread nD τ).loc main_arg0) : S4x8192x1024.Idx → EReal)
      (ix3 ⟨(rowOf t r).val / 8192, by have := (rowOf t r).isLt; omega⟩ ⟨(rowOf t r).val % 8192, by omega⟩ j) := by
  refine Eq.trans ?_ (flat_row _ (rowOf t r) j)
  rw [← V_v13 m c]
  show V m c main_v13 _ = _
  congr 1
  funext a
  apply Fin.ext
  match a with
  | 0 => show cc0_transform_0 (grid0.coords t) 0 * 512 + 1 * r.val = _; rw [index0]; show (place t).val * 512 + 1 * r.val = 512 * (place t).val + r.val; omega
  | 1 => show cc0_transform_0 (grid0.coords t) 1 * 1024 + 1 * j.val = _; rw [index0]; show 0 * 1024 + 1 * j.val = j.val; omega

theorem shown_sb (r : Fin 512) (j : Fin 512) :
    iblk m c 1 t (ix2 r j) = (m ((c : Thread nD τ).loc main_arg1) : S4x8192x512.Idx → EReal)
      (ix3 ⟨(rowOf t r).val / 8192, by have := (rowOf t r).isLt; omega⟩ ⟨(rowOf t r).val % 8192, by omega⟩ j) := by
  refine Eq.trans ?_ (flat_half _ (rowOf t r) j)
  rw [← V_v14 m c]
  show V m c main_v14 _ = _
  congr 1
  funext a
  apply Fin.ext
  match a with
  | 0 => show cc0_transform_1 (grid0.coords t) 0 * 512 + 1 * r.val = _; rw [index1]; show (place t).val * 512 + 1 * r.val = 512 * (place t).val + r.val; omega
  | 1 => show cc0_transform_1 (grid0.coords t) 1 * 512 + 1 * j.val = _; rw [index1]; show 0 * 512 + 1 * j.val = j.val; omega

theorem shown_df (r : Fin 512) (j : Fin 512) :
    iblk m c 2 t (ix2 r j) = (m ((c : Thread nD τ).loc main_arg2) : S4x8192x512.Idx → EReal)
      (ix3 ⟨(rowOf t r).val / 8192, by have := (rowOf t r).isLt; omega⟩ ⟨(rowOf t r).val % 8192, by omega⟩ j) := by
  refine Eq.trans ?_ (flat_half _ (rowOf t r) j)
  rw [← V_v15 m c]
  show V m c main_v15 _ = _
  congr 1
  funext a
  apply Fin.ext
  match a with
  | 0 => show cc0_transform_2 (grid0.coords t) 0 * 512 + 1 * r.val = _; rw [index2]; show (place t).val * 512 + 1 * r.val = 512 * (place t).val + r.val; omega
  | 1 => show cc0_transform_2 (grid0.coords t) 1 * 512 + 1 * j.val = _; rw [index2]; show 0 * 512 + 1 * j.val = j.val; omega

theorem shown_g (j : Fin 1024) : iblk m c 3 t (ix2 0 j) = (m ((c : Thread nD τ).loc main_arg3) : S1x1024.Idx → EReal) (ix2 0 j) := by
  refine Eq.trans ?_ (flat_line_1024 _ j)
  rw [← V_v17 m c]
  show V m c main_v17 _ = _
  congr 1
  funext a
  apply Fin.ext
  match a with
  | 0 => show 0 * 1 + 1 * 0 = 0; omega
  | 1 => show 0 * 1024 + 1 * j.val = j.val; omega

theorem shown_w (i : Fin 1024) (j : Fin 3072) : iblk m c 4 t (ix2 i j) = columns (F := Ideal) (m ((c : Thread nD τ).loc main_arg4)) (ix2 i j) := by
  refine Eq.trans ?_ (congrFun (V_v12 m c) (ix2 i j))
  show V m c main_v12 _ = _
  congr 1
  funext a
  apply Fin.ext
  match a with
  | 0 => show 0 * 1024 + 1 * i.val = i.val; omega
  | 1 => show 0 * 3072 + 1 * j.val = j.val; omega

theorem shown_b (j : Fin 2048) : iblk m c 5 t (ix2 0 j) = (m ((c : Thread nD τ).loc main_arg5) : S1x2048.Idx → EReal) (ix2 0 j) := by
  refine Eq.trans ?_ (flat_line_2048 _ j)
  rw [← V_v19 m c]
  show V m c main_v19 _ = _
  congr 1
  funext a
  apply Fin.ext
  match a with
  | 0 => show 0 * 1 + 1 * 0 = 0; omega
  | 1 => show 0 * 2048 + 1 * j.val = j.val; omega

theorem shown_ws (i : Fin 512) (j : Fin 1024) : iblk m c 6 t (ix2 i j) = (m ((c : Thread nD τ).loc main_arg6) : S1x512x1024.Idx → EReal) (ix3 0 i j) := by
  refine Eq.trans ?_ (flat_matrix_512 _ i j)
  rw [← V_v21 m c]
  show V m c main_v21 _ = _
  congr 1
  funext a
  apply Fin.ext
  match a with
  | 0 => show 0 * 512 + 1 * i.val = i.val; omega
  | 1 => show 0 * 1024 + 1 * j.val = j.val; omega

theorem shown_wd (i : Fin 512) (j : Fin 1024) : iblk m c 7 t (ix2 i j) = (m ((c : Thread nD τ).loc main_arg7) : S1x512x1024.Idx → EReal) (ix3 0 i j) := by
  refine Eq.trans ?_ (flat_matrix_512 _ i j)
  rw [← V_v23 m c]
  show V m c main_v23 _ = _
  congr 1
  funext a
  apply Fin.ext
  match a with
  | 0 => show 0 * 512 + 1 * i.val = i.val; omega
  | 1 => show 0 * 1024 + 1 * j.val = j.val; omega

theorem shown_wo (i : Fin 1024) (j : Fin 1024) : iblk m c 8 t (ix2 i j) = (m ((c : Thread nD τ).loc main_arg8) : S1x1024x1024.Idx → EReal) (ix3 0 i j) := by
  refine Eq.trans ?_ (flat_matrix_1024 _ i j)
  rw [← V_v25 m c]
  show V m c main_v25 _ = _
  congr 1
  funext a
  apply Fin.ext
  match a with
  | 0 => show 0 * 1024 + 1 * i.val = i.val; omega
  | 1 => show 0 * 1024 + 1 * j.val = j.val; omega

theorem shown_gp (j : Fin 1024) : iblk m c 9 t (ix2 0 j) = (m ((c : Thread nD τ).loc main_arg9) : S1x1024.Idx → EReal) (ix2 0 j) := by
  refine Eq.trans ?_ (flat_line_1024 _ j)
  rw [← V_v27 m c]
  show V m c main_v27 _ = _
  congr 1
  funext a
  apply Fin.ext
  match a with
  | 0 => show 0 * 1 + 1 * 0 = 0; omega
  | 1 => show 0 * 1024 + 1 * j.val = j.val; omega

end Cert.Proof.Out

end
-- ==== Proof.Out.Value.lean ====
/- The last call's whole result: every row of the array is the merge of that row's arguments. -/
module

public import proofs.«01_k».proof.Proof.Out.Shown
public import Idealize.ShloMosaic.Lib.Pipeline.Covers

@[expose] public section

set_option maxRecDepth 16384

noncomputable section

namespace Cert.Proof.Out

open Cert.Kernel2Ideal Cert.Kernel2Ideal.Gen
open Idealize.ShloMosaic Idealize.ShloMosaic.TcCoe

variable (m : (ℓ : Loc nD τ sig) → Buf (Elt Ideal) ℓ)

/-- The call's result. -/
def result (c : Dev nD) : S32768x1024.Idx → EReal := fun i =>
  whole (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (i 0) (i 1)

theorem emb_place (t : Fin cfg0.N) (r : Fin 512) (j : Fin 1024) :
    (win0_10.blk t).view.emb (ix2 r j) = (ix2 (rowOf t r) j : S32768x1024.Idx) := by
  funext a
  apply Fin.ext
  match a with
  | 0 => show cc0_transform_10 (grid0.coords t) 0 * 512 + 1 * r.val = _; rw [index10]; show (place t).val * 512 + 1 * r.val = 512 * (place t).val + r.val; omega
  | 1 => show cc0_transform_10 (grid0.coords t) 1 * 1024 + 1 * j.val = _; rw [index10]; show 0 * 1024 + 1 * j.val = j.val; omega

/-- The block a grid point leaves is its rows of the result. -/
theorem block_eq (c : Dev nD) (t : Fin cfg0.N) (r : Fin 512) (j : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r j)
      = result m c (ix2 (rowOf t r) j) := by
  refine (block_read _ _ _ _ _ _ _ _ _ _ r j).trans ?_
  unfold row half line proj
  simp only [shown_x, shown_sb, shown_df, shown_g, shown_w, shown_b, shown_ws, shown_wd, shown_wo, shown_gp, columns_low, columns_high]
  have e1 := fun (i : Fin 1024) (e : Fin 1024) => columns_gate (m ((c : Thread nD τ).loc main_arg4)) i ⟨e.val, by omega⟩
  have e2 := fun (i : Fin 1024) (e : Fin 1024) => columns_gate (m ((c : Thread nD τ).loc main_arg4)) i ⟨1024 + e.val, by omega⟩
  simp only [e1, e2]
  rfl

theorem flushed_eq (c : Dev nD) (t : Fin cfg0.N) :
    (dats m 0 c).flushed 10 t = (win0_10.blk t).view.read (Elt Ideal) (result m c) := by
  rw [Value.flushed10]
  funext y
  obtain ⟨r, j, rfl⟩ : ∃ (r : Fin 512) (j : Fin 1024), y = ix2 r j := ⟨y 0, y 1, eq_ix2 y⟩
  refine (block_eq m c t r j).trans ?_
  show _ = result m c ((win0_10.blk t).view.emb (ix2 r j))
  rw [emb_place]

theorem point_of (q : Fin 64) : ∃ t : Fin cfg0.N, place t = q := by
  obtain ⟨t, ht⟩ := Pipeline.Grid.coords_surjective grid0 (fun a => match a with | 0 => q)
  exact ⟨t, congrFun ht 0⟩

theorem cover (i : S32768x1024.Idx) : ∃ t : Fin cfg0.N, (cfg0.win 10).flush t = true ∧ i ∈ ((cfg0.win 10).blk t).view.set := by
  obtain ⟨n, j, rfl⟩ : ∃ (n : Fin 32768) (j : Fin 1024), i = ix2 n j := ⟨i 0, i 1, eq_ix2 i⟩
  obtain ⟨t, ht⟩ := point_of ⟨n.val / 512, by omega⟩
  refine ⟨t, flush0_10 t, ?_⟩
  have e : (ix2 n j : S32768x1024.Idx) = (win0_10.blk t).view.emb (ix2 ⟨n.val % 512, by omega⟩ j) := by
    rw [emb_place]
    congr 1
    apply Fin.ext
    show n.val = 512 * (place t).val + n.val % 512
    rw [ht]; show n.val = 512 * (n.val / 512) + n.val % 512; omega
  rw [e]
  exact Finset.mem_map_of_mem _ (Finset.mem_univ _)

theorem final (c : Dev nD) : (dats m 0 c).arrAt 10 cfg0.N = result m c :=
  (dats m 0 c).arrAt_eq_of_cover 10 (result m c) (fun t _ => flushed_eq m c t) cover

end Cert.Proof.Out

end
-- ==== Proof.Out.Stages.lean ====
/- The reference's last call in steps: the norm, the projection of gates, the two gated branches, their merge, the output
   projection and the residual. -/
module

public import proofs.«01_k».proof.Proof.Gen.Reference2Ideal.Run

@[expose] public section

set_option maxRecDepth 16384

noncomputable section

namespace Cert.Proof.OutRef

open Cert.Reference2Ideal Cert.Reference2Ideal.Gen Cert.Reference2Ideal.Value
open Idealize.ShloMosaic Idealize.ShloMosaic.TcCoe

variable {F : FTy → Type} [FloatOps F]

/-- Each row over the root of its mean square, scaled by the gains. -/
def normed (v : FVec F S4x8192x1024 .f32) (g : FVec F S1x1024 .f32) : FVec F S4x8192x1024 .f32 :=
  mulf (mulf v (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf v v) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast _ g shapeCasts_S1x1024_S1024)))

/-- The normed rows under the input projection. -/
def projected (x : FVec F S4x8192x1024 .f32) (g : FVec F S1x1024 .f32) (w : FVec F S1x1024x6144 .f32) : FVec F S4x8192x6144 .f32 :=
  Host.dotGeneral dot_S4x8192x1024_S1024x6144_S4x8192x6144_2_0_01_1_n_n none (normed x g) (shapeCast _ w shapeCasts_S1x1024x6144_S1024x6144)

/-- A branch under its own gate. -/
def gated (v z : FVec F S4x8192x512 .f32) : FVec F S4x8192x512 .f32 :=
  mulf v (mulf z (Host.divf (broadcastInDim S4x8192x512 ![] bcast_S_S4x8192x512 (constant S_ .f32 0x3F800000#32))
    (addf (broadcastInDim S4x8192x512 ![] bcast_S_S4x8192x512 (constant S_ .f32 0x3F800000#32)) (Host.exp (Host.negf z)))))

/-- A gated branch, projected. -/
def branched (v z : FVec F S4x8192x512 .f32) (w : FVec F S1x512x1024 .f32) : FVec F S4x8192x1024 .f32 :=
  Host.dotGeneral dot_S4x8192x512_S512x1024_S4x8192x1024_2_0_01_1_n_n none (gated v z) (shapeCast _ w shapeCasts_S1x512x1024_S512x1024)

/-- The channels' gates. -/
def gates (p : FVec F S4x8192x6144 .f32) (b : FVec F S1x2048 .f32) : FVec F S4x8192x2048 .f32 :=
  Host.divf (broadcastInDim S4x8192x2048 ![] bcast_S_S4x8192x2048 (constant S_ .f32 0x3F800000#32))
    (addf (broadcastInDim S4x8192x2048 ![] bcast_S_S4x8192x2048 (constant S_ .f32 0x3F800000#32))
      (Host.exp (Host.negf (addf (extractStridedSlice S4x8192x2048 ![0, 0, 4096] p slices_S4x8192x6144_S4x8192x2048_0_0_4096)
        (broadcastInDim S4x8192x2048 ![0, 1, 2] bcast_S1x1x2048_S4x8192x2048_0_1_2
          (broadcastInDim S1x1x2048 ![2] bcast_S2048_S1x1x2048_2 (shapeCast _ b shapeCasts_S1x2048_S2048)))))))

/-- The two branches, merged by the gates. -/
def merged (t : FVec F S4x8192x2048 .f32) (ys yd : FVec F S4x8192x1024 .f32) : FVec F S4x8192x1024 .f32 :=
  addf (mulf (extractStridedSlice S4x8192x1024 ![0, 0, 0] t slices_S4x8192x2048_S4x8192x1024_0_0_0) ys)
    (mulf (extractStridedSlice S4x8192x1024 ![0, 0, 1024] t slices_S4x8192x2048_S4x8192x1024_0_0_1024) yd)

/-- The merge under the output projection. -/
def output (y : FVec F S4x8192x1024 .f32) (w : FVec F S1x1024x1024 .f32) : FVec F S4x8192x1024 .f32 :=
  Host.dotGeneral dot_S4x8192x1024_S1024x1024_S4x8192x1024_2_0_01_1_n_n none y (shapeCast _ w shapeCasts_S1x1024x1024_S1024x1024)

/-- The merge, from the call's arguments. -/
def mix (x : FVec F S4x8192x1024 .f32) (sb df : FVec F S4x8192x512 .f32) (g : FVec F S1x1024 .f32) (w : FVec F S1x1024x6144 .f32)
    (b : FVec F S1x2048 .f32) (ws wd : FVec F S1x512x1024 .f32) : FVec F S4x8192x1024 .f32 :=
  merged (gates (projected x g w) b)
    (branched sb (extractStridedSlice S4x8192x512 ![0, 0, 1536] (projected x g w) slices_S4x8192x6144_S4x8192x512_0_0_1536) ws)
    (branched df (extractStridedSlice S4x8192x512 ![0, 0, 3584] (projected x g w) slices_S4x8192x6144_S4x8192x512_0_0_3584) wd)

/-- The residual, as rows. -/
def rows (x o : FVec F S4x8192x1024 .f32) (gp : FVec F S1x1024 .f32) : FVec F S32768x1024 .f32 :=
  shapeCast _ (addf x (normed o gp)) shapeCasts_S4x8192x1024_S32768x1024

/-- The reference's result, step by step. -/
theorem result_eq (m : (ℓ : Loc nD τ sig) → Buf (Elt F) ℓ) (c : Dev nD) :
    res_main_v59 m c = rows (m ((c.tc : Thread nD τ).loc main_arg0))
      (output (mix (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))) (m ((c.tc : Thread nD τ).loc main_arg8)))
      (m ((c.tc : Thread nD τ).loc main_arg9)) := by
  unfold res_main_v59; rfl

end Cert.Proof.OutRef

end
-- ==== Proof.Out.RefRead.lean ====
/- The reference's last call read at an index: a row of the merge. -/
module

public import proofs.«01_k».proof.Proof.Out.Stages
public import proofs.«01_k».proof.Proof.Out.Row
public import Idealize.ShloMosaic.Lib.Pointwise

@[expose] public section

set_option maxRecDepth 16384

noncomputable section

namespace Cert.Proof.OutRef

open Cert.Reference2Ideal Cert.Reference2Ideal.Gen
open Idealize.ShloMosaic Idealize.ShloMosaic.TcCoe
open Cert.Proof.Out (rowNorm gate branch merge outRow proj)
open scoped BigOperators

theorem normed_read (v : FVec Ideal S4x8192x1024 .f32) (g : FVec Ideal S1x1024 .f32) (b : Fin 4) (s : Fin 8192) (c : Fin 1024) :
    normed v g (ix3 b s c) = rowNorm (fun j => v (ix3 b s j)) (fun j => g (ix2 0 j)) c := by
  pointwise [normed]
  rfl

theorem projected_read (x : FVec Ideal S4x8192x1024 .f32) (g : FVec Ideal S1x1024 .f32) (w : FVec Ideal S1x1024x6144 .f32) (b : Fin 4) (s : Fin 8192) (e : Fin 6144) :
    projected x g w (ix3 b s e) = proj (fun j => x (ix3 b s j)) (fun j => g (ix2 0 j)) (fun j e => w (ix3 0 j e)) e := by
  pointwise [projected]
  unfold proj
  refine Finset.sum_congr rfl fun j _ => ?_
  rw [normed_read]

theorem branched_read (v z : FVec Ideal S4x8192x512 .f32) (w : FVec Ideal S1x512x1024 .f32) (b : Fin 4) (s : Fin 8192) (c : Fin 1024) :
    branched v z w (ix3 b s c) = branch (fun j => v (ix3 b s j)) (fun j => z (ix3 b s j)) (fun j c => w (ix3 0 j c)) c := by
  pointwise [branched, gated]
  rfl

theorem gates_read (p : FVec Ideal S4x8192x6144 .f32) (bi : FVec Ideal S1x2048 .f32) (b : Fin 4) (s : Fin 8192) (e : Fin 2048) :
    gates p bi (ix3 b s e) = gate (p (ix3 b s ⟨4096 + e.val, by omega⟩) + bi (ix2 0 e)) := by
  pointwise [gates]
  rfl

theorem merged_read (t : FVec Ideal S4x8192x2048 .f32) (ys yd : FVec Ideal S4x8192x1024 .f32) (b : Fin 4) (s : Fin 8192) (c : Fin 1024) :
    merged t ys yd (ix3 b s c) = t (ix3 b s ⟨c.val, by omega⟩) * ys (ix3 b s c) + t (ix3 b s ⟨1024 + c.val, by omega⟩) * yd (ix3 b s c) := by
  pointwise [merged]

theorem output_read (y : FVec Ideal S4x8192x1024 .f32) (w : FVec Ideal S1x1024x1024 .f32) (b : Fin 4) (s : Fin 8192) (e : Fin 1024) :
    output y w (ix3 b s e) = ∑ j : Fin 1024, y (ix3 b s j) * w (ix3 0 j e) := by
  pointwise [output]

theorem low_read (p : FVec Ideal S4x8192x6144 .f32) (b : Fin 4) (s : Fin 8192) (e : Fin 512) :
    extractStridedSlice S4x8192x512 ![0, 0, 1536] p slices_S4x8192x6144_S4x8192x512_0_0_1536 (ix3 b s e) = p (ix3 b s ⟨1536 + e.val, by omega⟩) := by
  pointwise []

theorem high_read (p : FVec Ideal S4x8192x6144 .f32) (b : Fin 4) (s : Fin 8192) (e : Fin 512) :
    extractStridedSlice S4x8192x512 ![0, 0, 3584] p slices_S4x8192x6144_S4x8192x512_0_0_3584 (ix3 b s e) = p (ix3 b s ⟨3584 + e.val, by omega⟩) := by
  pointwise []

theorem rows_read (x o : FVec Ideal S4x8192x1024 .f32) (gp : FVec Ideal S1x1024 .f32) (n : Fin 32768) (c : Fin 1024) :
    rows x o gp (ix2 n c) = x (ix3 ⟨n.val / 8192, by omega⟩ ⟨n.val % 8192, by omega⟩ c)
      + normed o gp (ix3 ⟨n.val / 8192, by omega⟩ ⟨n.val % 8192, by omega⟩ c) := by
  pointwise [rows]

end Cert.Proof.OutRef

end
-- ==== Proof.Out.RefValue.lean ====
/- The reference's whole result: every row is the merge of that row's arguments. -/
module

public import proofs.«01_k».proof.Proof.Out.RefRead

@[expose] public section

set_option maxRecDepth 16384

noncomputable section

namespace Cert.Proof.OutRef

open Cert.Reference2Ideal Cert.Reference2Ideal.Gen Cert.Reference2Ideal.Value
open Idealize.ShloMosaic Idealize.ShloMosaic.TcCoe
open Cert.Proof.Out (rowNorm gate branch merge outRow proj whole)

theorem mix_read (x : FVec Ideal S4x8192x1024 .f32) (sb df : FVec Ideal S4x8192x512 .f32) (g : FVec Ideal S1x1024 .f32) (w : FVec Ideal S1x1024x6144 .f32)
    (bi : FVec Ideal S1x2048 .f32) (ws wd : FVec Ideal S1x512x1024 .f32) (b : Fin 4) (s : Fin 8192) (c : Fin 1024) :
    mix x sb df g w bi ws wd (ix3 b s c)
      = merge (fun j => sb (ix3 b s j)) (fun j => df (ix3 b s j))
          (fun e => proj (fun j => x (ix3 b s j)) (fun j => g (ix2 0 j)) (fun j e => w (ix3 0 j e)) (⟨1536 + e.val, by omega⟩ : Fin 6144))
          (fun e => proj (fun j => x (ix3 b s j)) (fun j => g (ix2 0 j)) (fun j e => w (ix3 0 j e)) (⟨3584 + e.val, by omega⟩ : Fin 6144))
          (fun e => proj (fun j => x (ix3 b s j)) (fun j => g (ix2 0 j)) (fun j e => w (ix3 0 j e)) (⟨4096 + e.val, by omega⟩ : Fin 6144) + bi (ix2 0 ⟨e.val, by omega⟩))
          (fun e => proj (fun j => x (ix3 b s j)) (fun j => g (ix2 0 j)) (fun j e => w (ix3 0 j e)) (⟨4096 + (1024 + e.val), by omega⟩ : Fin 6144) + bi (ix2 0 ⟨1024 + e.val, by omega⟩))
          (fun j c => ws (ix3 0 j c)) (fun j c => wd (ix3 0 j c)) c := by
  unfold mix
  rw [merged_read, gates_read, gates_read, branched_read, branched_read, projected_read, projected_read]
  simp only [low_read, high_read, projected_read]
  rfl

/-- The reference's result at an index. -/
theorem value_read (m : (ℓ : Loc nD τ sig) → Buf (Elt Ideal) ℓ) (c : Dev nD) :
    res_main_v59 m c = (fun i : S32768x1024.Idx =>
      whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (i 0) (i 1)) := by
  rw [result_eq]
  funext i
  obtain ⟨n, j, rfl⟩ : ∃ (n : Fin 32768) (j : Fin 1024), i = ix2 n j := ⟨i 0, i 1, eq_ix2 i⟩
  refine (rows_read _ _ _ n j).trans ?_
  rw [normed_read]
  simp only [output_read, mix_read]
  rfl

end Cert.Proof.OutRef

end
-- ==== Proof.Qkv.Row.lean ====
/- The first call on one row: the norm, the projection onto the queries, keys and values, the queries' factor. -/
module

public import proofs.«01_k».proof.Proof.Out.Row

@[expose] public section

noncomputable section

namespace Cert.Proof.Qkv

open Idealize.ShloMosaic
open Cert.Proof.Out (proj)

/-- The input projection's column that column `e` of the result comes from: the fourth group of 512 is the first
    branch's gate, which the result leaves out. -/
def source (e : Fin 3072) : Fin 6144 := if e.val < 1536 then ⟨e.val, by omega⟩ else ⟨512 + e.val, by omega⟩

/-- The factor of column `e`: `f` at the two groups of queries, one elsewhere. -/
def scale (f : EReal) (e : Fin 3072) : EReal := if e.val < 512 ∨ (1536 ≤ e.val ∧ e.val < 2048) then f else 1

/-- The call's result at row `n` and column `e`, from its four arguments. -/
def whole (x : (⟨3, ![4, 8192, 1024]⟩ : Shape).Idx → EReal) (g : (⟨2, ![1, 1024]⟩ : Shape).Idx → EReal) (w : (⟨3, ![1, 1024, 6144]⟩ : Shape).Idx → EReal)
    (f : (⟨2, ![1, 1]⟩ : Shape).Idx → EReal) (n : Fin 32768) (e : Fin 3072) : EReal :=
  proj (fun j => x (ix3 ⟨n.val / 8192, by omega⟩ ⟨n.val % 8192, by omega⟩ j)) (fun j => g (ix2 0 j)) (fun j k => w (ix3 0 j k)) (source e) * scale (f (ix2 0 0)) e

end Cert.Proof.Qkv

end
-- ==== Proof.Qkv.Block.lean ====
/- The first call's block at a grid point, and what its windows show. -/
module

public import proofs.«01_k».proof.Proof.Gen.Kernel3Ideal.Value
public import proofs.«01_k».proof.Proof.Qkv.Row
public import Idealize.ShloMosaic.Lib.Pipeline.ValueKit.Basic
public import Idealize.ShloMosaic.Lib.Pointwise

@[expose] public section

set_option maxRecDepth 16384

noncomputable section

namespace Cert.Proof.Qkv

open Cert.Kernel3Ideal Cert.Kernel3Ideal.Gen
open Idealize.ShloMosaic Idealize.ShloMosaic.TcCoe
open Cert.Proof.Out (rowNorm proj)
open scoped BigOperators

/-- The block that a grid point leaves, read at an index. -/
theorem block_read (x : Vec Ideal S512x1024 .f32) (g : Vec Ideal S1x1024 .f32) (w : Vec Ideal S1024x3072 .bf16) (s : Vec Ideal S1x3072 .f32) (r : Fin 512) (e : Fin 3072) :
    out0_4 x g w s (ix2 r e) = proj (fun j => x (ix2 r j)) (fun j => g (ix2 0 j)) (fun j k => w (ix2 j k)) e * s (ix2 0 e) := by
  unfold out0_4
  rw [View.canon_cons_unit_lit _ _ _ (by decide)]
  rw [show View.ld x r0_0 = x from View.ld_unit_lit _ _ (by decide), show View.ld g r0_1 = g from View.ld_unit_lit _ _ (by decide),
    show View.ld w r0_2 = w from View.ld_unit_lit _ _ (by decide), show View.ld s r0_3 = s from View.ld_unit_lit _ _ (by decide)]
  pointwise [k0_pay1]
  rfl

section
variable {F : FTy → Type} [FloatOps F]

/-- The queries', keys' and values' columns of the input projection, side by side. -/
def columns (w : FVec F S1x1024x6144 .f32) : FVec F S1024x3072 .bf16 :=
  truncf .bf16 (concatenate S1024x3072 1
    [⟨S1024x512, extractStridedSlice S1024x512 ![0, 0] (shapeCast S1024x6144 w shapeCasts_S1x1024x6144_S1024x6144) slices_S1024x6144_S1024x512_0_0⟩,
     ⟨S1024x512, extractStridedSlice S1024x512 ![0, 512] (shapeCast S1024x6144 w shapeCasts_S1x1024x6144_S1024x6144) slices_S1024x6144_S1024x512_0_512⟩,
     ⟨S1024x512, extractStridedSlice S1024x512 ![0, 1024] (shapeCast S1024x6144 w shapeCasts_S1x1024x6144_S1024x6144) slices_S1024x6144_S1024x512_0_1024⟩,
     ⟨S1024x512, extractStridedSlice S1024x512 ![0, 2048] (shapeCast S1024x6144 w shapeCasts_S1x1024x6144_S1024x6144) slices_S1024x6144_S1024x512_0_2048⟩,
     ⟨S1024x512, extractStridedSlice S1024x512 ![0, 2560] (shapeCast S1024x6144 w shapeCasts_S1x1024x6144_S1024x6144) slices_S1024x6144_S1024x512_0_2560⟩,
     ⟨S1024x512, extractStridedSlice S1024x512 ![0, 3072] (shapeCast S1024x6144 w shapeCasts_S1x1024x6144_S1024x6144) slices_S1024x6144_S1024x512_0_3072⟩]
    concatenates_S1024x512_S1024x512_S1024x512_S1024x512_S1024x512_S1024x512_S1024x3072_d1) bitsLt_bf16_f32

/-- The columns' factors. -/
def factors (f : FVec F S1x1 .f32) : FVec F S1x3072 .f32 :=
  concatenate S1x3072 1
    [⟨S1x512, broadcastInDim S1x512 ![0, 1] bcast_S1x1_S1x512_0_1 f⟩, ⟨S1x512, broadcastInDim S1x512 ![] bcast_S_S1x512 (constant S_ .f32 0x3F800000#32)⟩,
     ⟨S1x512, broadcastInDim S1x512 ![] bcast_S_S1x512 (constant S_ .f32 0x3F800000#32)⟩, ⟨S1x512, broadcastInDim S1x512 ![0, 1] bcast_S1x1_S1x512_0_1 f⟩,
     ⟨S1x512, broadcastInDim S1x512 ![] bcast_S_S1x512 (constant S_ .f32 0x3F800000#32)⟩, ⟨S1x512, broadcastInDim S1x512 ![] bcast_S_S1x512 (constant S_ .f32 0x3F800000#32)⟩]
    concatenates_S1x512_S1x512_S1x512_S1x512_S1x512_S1x512_S1x3072_d1

end

theorem columns_read (w : FVec Ideal S1x1024x6144 .f32) (j : Fin 1024) (e : Fin 3072) :
    columns w (ix2 j e) = w (ix3 0 j (source e)) := by
  pointwise [columns]
  have hs : (source e).val = if e.val < 1536 then e.val else 512 + e.val := by unfold source; split <;> rfl
  repeat' split
  all_goals refine congrArg w (congrArg (ix3 0 j) (Fin.ext ?_)); rw [hs]; dsimp only; split <;> omega

theorem factors_read (f : FVec Ideal S1x1 .f32) (e : Fin 3072) : factors f (ix2 0 e) = scale (f (ix2 0 0)) e := by
  pointwise [factors]
  unfold scale
  split_ifs <;> first | rfl | omega

end Cert.Proof.Qkv

end
-- ==== Proof.Qkv.Value.lean ====
/- The first call's whole result: every row of the array is that row of the input, normed, projected and scaled. -/
module

public import proofs.«01_k».proof.Proof.Qkv.Block
public import Idealize.ShloMosaic.Lib.Pipeline.Covers

@[expose] public section

set_option maxRecDepth 16384

noncomputable section

namespace Cert.Proof.Qkv

open Cert.Kernel3Ideal Cert.Kernel3Ideal.Gen
open Idealize.ShloMosaic Idealize.ShloMosaic.TcCoe
open Cert.Proof.Out (proj)

variable (m : (ℓ : Loc nD τ sig) → Buf (Elt Ideal) ℓ) (c : Dev nD)

/-- The host's arrays when the call begins: the factors, the columns, the rows and the gains. -/
theorem host_factors : V m c main_v2 = (factors (F := Ideal) (m ((c : Thread nD τ).loc main_arg3)) : S1x3072.Idx → EReal) := by
  show StableHlo.after hostOps0 (fun b => m (c, b)) main_v2 = _
  after_results_simp
  rfl

set_option maxHeartbeats 4000000 in
theorem host_columns : V m c main_v15 = (columns (F := Ideal) (m ((c : Thread nD τ).loc main_arg2)) : S1024x3072.Idx → EReal) := by
  show StableHlo.after hostOps0 (fun b => m (c, b)) main_v15 = _
  after_results_simp
  rfl

theorem host_rows : V m c main_v16 = shapeCast S32768x1024 (m ((c : Thread nD τ).loc main_arg0) : S4x8192x1024.Idx → EReal) shapeCasts_S4x8192x1024_S32768x1024 := by
  show StableHlo.after hostOps0 (fun b => m (c, b)) main_v16 = _
  after_results_simp
  rfl

theorem host_gains : V m c main_v18 = shapeCast S1x1024 (shapeCast S1024 (m ((c : Thread nD τ).loc main_arg1) : S1x1024.Idx → EReal) shapeCasts_S1x1024_S1024) shapeCasts_S1024_S1x1024 := by
  show StableHlo.after hostOps0 (fun b => m (c, b)) main_v18 = _
  after_results_simp
  rfl

theorem rows_read (x : S4x8192x1024.Idx → EReal) (n : Fin 32768) (j : Fin 1024) :
    shapeCast S32768x1024 x shapeCasts_S4x8192x1024_S32768x1024 (ix2 n j) = x (ix3 ⟨n.val / 8192, by omega⟩ ⟨n.val % 8192, by omega⟩ j) := by
  pointwise []

theorem gains_read (x : S1x1024.Idx → EReal) (j : Fin 1024) :
    shapeCast S1x1024 (shapeCast S1024 x shapeCasts_S1x1024_S1024) shapeCasts_S1024_S1x1024 (ix2 0 j) = x (ix2 0 j) := by
  pointwise []

variable (t : Fin cfg0.N)

/-- A grid point's place among the blocks of rows. -/
abbrev place : Fin 64 := grid0.coords t 0

/-- The row of the array that is row `r` of a grid point's block. -/
abbrev rowOf (r : Fin 512) : Fin 32768 := ⟨512 * (place t).val + r.val, by have := (place t).isLt; omega⟩

theorem index_in (i : grid0.Coords) : cc0_transform_0 i = ![(i 0).val, 0] := by
  have h0 : (i 0).val < 64 := (i 0).isLt
  unfold cc0_transform_0; dsimp only
  rw [BitVec.toNat_ofNat, Nat.mod_eq_of_lt (by omega)]; rfl

theorem index_out (i : grid0.Coords) : cc0_transform_4 i = ![(i 0).val, 0] := by
  have h0 : (i 0).val < 64 := (i 0).isLt
  unfold cc0_transform_4; dsimp only
  rw [BitVec.toNat_ofNat, Nat.mod_eq_of_lt (by omega)]; rfl

theorem shown_x (r : Fin 512) (j : Fin 1024) :
    iblk m c 0 t (ix2 r j) = (m ((c : Thread nD τ).loc main_arg0) : S4x8192x1024.Idx → EReal)
      (ix3 ⟨(rowOf t r).val / 8192, by have := (rowOf t r).isLt; omega⟩ ⟨(rowOf t r).val % 8192, by omega⟩ j) := by
  refine Eq.trans ?_ (rows_read _ (rowOf t r) j)
  rw [← host_rows m c]
  show V m c main_v16 _ = _
  congr 1
  funext a
  apply Fin.ext
  match a with
  | 0 => show cc0_transform_0 (grid0.coords t) 0 * 512 + 1 * r.val = _; rw [index_in]; show (place t).val * 512 + 1 * r.val = 512 * (place t).val + r.val; omega
  | 1 => show cc0_transform_0 (grid0.coords t) 1 * 1024 + 1 * j.val = _; rw [index_in]; show 0 * 1024 + 1 * j.val = j.val; omega

theorem shown_g (j : Fin 1024) : iblk m c 1 t (ix2 0 j) = (m ((c : Thread nD τ).loc main_arg1) : S1x1024.Idx → EReal) (ix2 0 j) := by
  refine Eq.trans ?_ (gains_read _ j)
  rw [← host_gains m c]
  show V m c main_v18 _ = _
  congr 1
  funext a
  apply Fin.ext
  match a with
  | 0 => show 0 * 1 + 1 * 0 = 0; omega
  | 1 => show 0 * 1024 + 1 * j.val = j.val; omega

theorem shown_w (i : Fin 1024) (e : Fin 3072) :
    iblk m c 2 t (ix2 i e) = (m ((c : Thread nD τ).loc main_arg2) : S1x1024x6144.Idx → EReal) (ix3 0 i (source e)) := by
  refine Eq.trans ?_ (columns_read _ i e)
  refine Eq.trans ?_ (congrFun (host_columns m c) (ix2 i e))
  show V m c main_v15 _ = _
  congr 1
  funext a
  apply Fin.ext
  match a with
  | 0 => show 0 * 1024 + 1 * i.val = i.val; omega
  | 1 => show 0 * 3072 + 1 * e.val = e.val; omega

theorem shown_s (e : Fin 3072) :
    iblk m c 3 t (ix2 0 e) = scale ((m ((c : Thread nD τ).loc main_arg3) : S1x1.Idx → EReal) (ix2 0 0)) e := by
  refine Eq.trans ?_ (factors_read _ e)
  refine Eq.trans ?_ (congrFun (host_factors m c) (ix2 0 e))
  show V m c main_v2 _ = _
  congr 1
  funext a
  apply Fin.ext
  match a with
  | 0 => show 0 * 1 + 1 * 0 = 0; omega
  | 1 => show 0 * 3072 + 1 * e.val = e.val; omega

/-- The call's result. -/
def result : S32768x3072.Idx → EReal := fun i =>
  whole (m ((c : Thread nD τ).loc main_arg0)) (m ((c : Thread nD τ).loc main_arg1)) (m ((c : Thread nD τ).loc main_arg2)) (m ((c : Thread nD τ).loc main_arg3)) (i 0) (i 1)

theorem emb_place (r : Fin 512) (e : Fin 3072) : (win0_4.blk t).view.emb (ix2 r e) = (ix2 (rowOf t r) e : S32768x3072.Idx) := by
  funext a
  apply Fin.ext
  match a with
  | 0 => show cc0_transform_4 (grid0.coords t) 0 * 512 + 1 * r.val = _; rw [index_out]; show (place t).val * 512 + 1 * r.val = 512 * (place t).val + r.val; omega
  | 1 => show cc0_transform_4 (grid0.coords t) 1 * 3072 + 1 * e.val = _; rw [index_out]; show 0 * 3072 + 1 * e.val = e.val; omega

/-- The block a grid point leaves is its rows of the result. -/
theorem block_eq (r : Fin 512) (e : Fin 3072) :
    out0_4 (iblk m c 0 t) (iblk m c 1 t) (iblk m c 2 t) (iblk m c 3 t) (ix2 r e) = result m c (ix2 (rowOf t r) e) := by
  refine (block_read _ _ _ _ r e).trans ?_
  unfold proj
  simp only [shown_x, shown_g, shown_w, shown_s]
  rfl

theorem flushed_eq : (dats m 0 c).flushed 4 t = (win0_4.blk t).view.read (Elt Ideal) (result m c) := by
  rw [Value.flushed4]
  funext y
  obtain ⟨r, e, rfl⟩ : ∃ (r : Fin 512) (e : Fin 3072), y = ix2 r e := ⟨y 0, y 1, eq_ix2 y⟩
  refine (block_eq m c t r e).trans ?_
  show _ = result m c ((win0_4.blk t).view.emb (ix2 r e))
  rw [emb_place]

theorem cover (i : S32768x3072.Idx) : ∃ t : Fin cfg0.N, (cfg0.win 4).flush t = true ∧ i ∈ ((cfg0.win 4).blk t).view.set := by
  obtain ⟨n, e, rfl⟩ : ∃ (n : Fin 32768) (e : Fin 3072), i = ix2 n e := ⟨i 0, i 1, eq_ix2 i⟩
  obtain ⟨t, ht⟩ := Pipeline.Grid.coords_surjective grid0 (fun a => match a with | 0 => (⟨n.val / 512, by omega⟩ : Fin 64))
  have hq : place t = ⟨n.val / 512, by omega⟩ := congrFun ht 0
  refine ⟨t, flush0_4 t, ?_⟩
  have h : (ix2 n e : S32768x3072.Idx) = (win0_4.blk t).view.emb (ix2 ⟨n.val % 512, by omega⟩ e) := by
    rw [emb_place]
    congr 1
    apply Fin.ext
    show n.val = 512 * (place t).val + n.val % 512
    rw [hq]; show n.val = 512 * (n.val / 512) + n.val % 512; omega
  rw [h]
  exact Finset.mem_map_of_mem _ (Finset.mem_univ _)

/-- After the call, its array holds the result. -/
theorem final : (dats m 0 c).arrAt 4 cfg0.N = result m c :=
  (dats m 0 c).arrAt_eq_of_cover 4 (result m c) (fun t _ => flushed_eq m c t) cover

end Cert.Proof.Qkv

end
-- ==== Proof.Qkv.RefValue.lean ====
/- The first call's reference: in steps, and read at an index. -/
module

public import proofs.«01_k».proof.Proof.Gen.Reference3Ideal.Run
public import proofs.«01_k».proof.Proof.Qkv.Row
public import Idealize.ShloMosaic.Lib.Pointwise

@[expose] public section

set_option maxRecDepth 16384

noncomputable section

namespace Cert.Proof.QkvRef

open Cert.Reference3Ideal Cert.Reference3Ideal.Gen Cert.Reference3Ideal.Value
open Idealize.ShloMosaic Idealize.ShloMosaic.TcCoe
open Cert.Proof.Out (rowNorm proj)
open Cert.Proof.Qkv (source scale whole)
open scoped BigOperators

section
variable {F : FTy → Type} [FloatOps F]

/-- Each row over the root of its mean square, scaled by the gains. -/
def normed (v : FVec F S4x8192x1024 .f32) (g : FVec F S1x1024 .f32) : FVec F S4x8192x1024 .f32 :=
  mulf (mulf v (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf v v) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast _ g shapeCasts_S1x1024_S1024)))

/-- The normed rows under the input projection. -/
def projected (x : FVec F S4x8192x1024 .f32) (g : FVec F S1x1024 .f32) (w : FVec F S1x1024x6144 .f32) : FVec F S4x8192x6144 .f32 :=
  Host.dotGeneral dot_S4x8192x1024_S1024x6144_S4x8192x6144_2_0_01_1_n_n none (normed x g) (shapeCast _ w shapeCasts_S1x1024x6144_S1024x6144)

/-- A group of queries under its factor. -/
def scaled (q : FVec F S4x8192x512 .f32) (f : FVec F S1x1 .f32) : FVec F S4x8192x512 .f32 :=
  mulf q (broadcastInDim S4x8192x512 ![] bcast_S_S4x8192x512 (shapeCast _ f shapeCasts_S1x1_S_))

/-- The queries, keys and values of both branches side by side, as rows. -/
def gathered (p : FVec F S4x8192x6144 .f32) (f : FVec F S1x1 .f32) : FVec F S32768x3072 .bf16 :=
  truncf .bf16 (shapeCast S32768x3072 (concatenate S4x8192x3072 2
    [⟨S4x8192x512, scaled (extractStridedSlice S4x8192x512 ![0, 0, 0] p slices_S4x8192x6144_S4x8192x512_0_0_0) f⟩,
     ⟨S4x8192x512, extractStridedSlice S4x8192x512 ![0, 0, 512] p slices_S4x8192x6144_S4x8192x512_0_0_512⟩,
     ⟨S4x8192x512, extractStridedSlice S4x8192x512 ![0, 0, 1024] p slices_S4x8192x6144_S4x8192x512_0_0_1024⟩,
     ⟨S4x8192x512, scaled (extractStridedSlice S4x8192x512 ![0, 0, 2048] p slices_S4x8192x6144_S4x8192x512_0_0_2048) f⟩,
     ⟨S4x8192x512, extractStridedSlice S4x8192x512 ![0, 0, 2560] p slices_S4x8192x6144_S4x8192x512_0_0_2560⟩,
     ⟨S4x8192x512, extractStridedSlice S4x8192x512 ![0, 0, 3072] p slices_S4x8192x6144_S4x8192x512_0_0_3072⟩]
    concatenates_S4x8192x512_S4x8192x512_S4x8192x512_S4x8192x512_S4x8192x512_S4x8192x512_S4x8192x3072_d2) shapeCasts_S4x8192x3072_S32768x3072) bitsLt_bf16_f32

/-- The reference's result, step by step. -/
theorem result_eq (m : (ℓ : Loc nD τ sig) → Buf (Elt F) ℓ) (c : Dev nD) :
    res_main_v31 m c = gathered (projected (m ((c.tc : Thread nD τ).loc main_arg0)) (m ((c.tc : Thread nD τ).loc main_arg1)) (m ((c.tc : Thread nD τ).loc main_arg2)))
      (m ((c.tc : Thread nD τ).loc main_arg3)) := by
  unfold res_main_v31; rfl

end

theorem normed_read (v : FVec Ideal S4x8192x1024 .f32) (g : FVec Ideal S1x1024 .f32) (b : Fin 4) (s : Fin 8192) (c : Fin 1024) :
    normed v g (ix3 b s c) = rowNorm (fun j => v (ix3 b s j)) (fun j => g (ix2 0 j)) c := by
  pointwise [normed]
  rfl

theorem projected_read (x : FVec Ideal S4x8192x1024 .f32) (g : FVec Ideal S1x1024 .f32) (w : FVec Ideal S1x1024x6144 .f32) (b : Fin 4) (s : Fin 8192) (e : Fin 6144) :
    projected x g w (ix3 b s e) = proj (fun j => x (ix3 b s j)) (fun j => g (ix2 0 j)) (fun j e => w (ix3 0 j e)) e := by
  pointwise [projected]
  unfold proj
  refine Finset.sum_congr rfl fun j _ => ?_
  rw [normed_read]

/-- Six groups of columns side by side, the first and the fourth under a factor: each is its source under its factor. -/
theorem group_of (q : Fin 6144 → EReal) (f : EReal) (e : Fin 3072) :
    (if h : e.val < 512 then q ⟨e.val, by omega⟩ * f
     else if h1 : e.val - 512 < 512 then q ⟨512 + (e.val - 512), by omega⟩
     else if h2 : e.val - 512 - 512 < 512 then q ⟨1024 + (e.val - 512 - 512), by omega⟩
     else if h3 : e.val - 512 - 512 - 512 < 512 then q ⟨2048 + (e.val - 512 - 512 - 512), by omega⟩ * f
     else if h4 : e.val - 512 - 512 - 512 - 512 < 512 then q ⟨2560 + (e.val - 512 - 512 - 512 - 512), by omega⟩
     else q ⟨3072 + (e.val - 512 - 512 - 512 - 512 - 512), by omega⟩) = q (source e) * scale f e := by
  have hs : (source e).val = if e.val < 1536 then e.val else 512 + e.val := by unfold source; split <;> rfl
  have plain : ∀ k : Fin 6144, k.val = (source e).val → ¬ (e.val < 512 ∨ (1536 ≤ e.val ∧ e.val < 2048)) → q k = q (source e) * scale f e :=
    fun k h h' => by rw [Fin.ext h, scale, if_neg h', mul_one]
  have query : ∀ k : Fin 6144, k.val = (source e).val → (e.val < 512 ∨ (1536 ≤ e.val ∧ e.val < 2048)) → q k * f = q (source e) * scale f e :=
    fun k h h' => by rw [Fin.ext h, scale, if_pos h']
  split
  · exact query _ (by rw [hs, if_pos (by omega)]) (by omega)
  split
  · exact plain _ (by rw [hs, if_pos (by omega)]; dsimp only; omega) (by omega)
  split
  · exact plain _ (by rw [hs, if_pos (by omega)]; dsimp only; omega) (by omega)
  split
  · exact query _ (by rw [hs, if_neg (by omega)]; dsimp only; omega) (by omega)
  split
  · exact plain _ (by rw [hs, if_neg (by omega)]; dsimp only; omega) (by omega)
  · exact plain _ (by rw [hs, if_neg (by omega)]; dsimp only; omega) (by omega)

/-- Each column of the result is its source column under its factor. -/
theorem gathered_read (p : FVec Ideal S4x8192x6144 .f32) (f : FVec Ideal S1x1 .f32) (n : Fin 32768) (e : Fin 3072) :
    gathered p f (ix2 n e) = p (ix3 ⟨n.val / 8192, by omega⟩ ⟨n.val % 8192, by omega⟩ (source e)) * scale (f (ix2 0 0)) e := by
  pointwise [gathered, scaled]
  exact group_of (fun k => p (ix3 ⟨n.val / 8192, by omega⟩ ⟨n.val % 8192, by omega⟩ k)) (f (ix2 0 0)) e

/-- The reference's result at an index. -/
theorem value_read (m : (ℓ : Loc nD τ sig) → Buf (Elt Ideal) ℓ) (c : Dev nD) :
    res_main_v31 m c = (fun i : S32768x3072.Idx =>
      whole (m ((c.tc : Thread nD τ).loc main_arg0)) (m ((c.tc : Thread nD τ).loc main_arg1)) (m ((c.tc : Thread nD τ).loc main_arg2))
        (m ((c.tc : Thread nD τ).loc main_arg3)) (i 0) (i 1)) := by
  rw [result_eq]
  funext i
  obtain ⟨n, e, rfl⟩ : ∃ (n : Fin 32768) (e : Fin 3072), i = ix2 n e := ⟨i 0, i 1, eq_ix2 i⟩
  refine (gathered_read _ _ n e).trans ?_
  rw [projected_read]
  rfl

end Cert.Proof.QkvRef

end
-- ==== Proof.Lambda.Value.lean ====
/- The weight of the second map: what the call leaves and what the reference computes. -/
module

public import proofs.«01_k».proof.Proof.Gen.Kernel4Ideal.Value
public import proofs.«01_k».proof.Proof.Gen.Reference4Ideal.Run
public import Idealize.ShloMosaic.Lib.Pipeline.ValueKit.Basic
public import Idealize.ShloMosaic.Lib.Pointwise

@[expose] public section

set_option maxRecDepth 16384

noncomputable section

namespace Cert.Proof.Lambda

open Idealize.ShloMosaic Idealize.ShloMosaic.TcCoe
open scoped BigOperators

/-- The difference of two exponentials of inner products, and the constant. -/
def weight (q1 k1 q2 k2 : (⟨2, ![1, 64]⟩ : Shape).Idx → EReal) : EReal :=
  Ideal.exp (∑ j : Fin 64, q1 (ix2 0 j) * k1 (ix2 0 j)) - Ideal.exp (∑ j : Fin 64, q2 (ix2 0 j) * k2 (ix2 0 j)) + Ideal.ofBits .f32 0x3E4CCCCD#32

section
open Cert.Kernel4Ideal Cert.Kernel4Ideal.Gen

theorem block_read (q1 k1 q2 k2 : Vec Ideal S1x64 .f32) : out0_4 q1 k1 q2 k2 (ix2 0 0) = weight q1 k1 q2 k2 := by
  unfold out0_4
  rw [View.canon_cons_unit_lit _ _ _ (by decide)]
  rw [show View.ld q1 r0_0 = q1 from View.ld_unit_lit _ _ (by decide), show View.ld k1 r0_0 = k1 from View.ld_unit_lit _ _ (by decide),
    show View.ld q2 r0_0 = q2 from View.ld_unit_lit _ _ (by decide), show View.ld k2 r0_0 = k2 from View.ld_unit_lit _ _ (by decide)]
  pointwise [k0_pay1]
  rfl

variable (m : (ℓ : Loc nD τ sig) → Buf (Elt Ideal) ℓ) (c : Dev nD)

theorem row_read (x : S1x64.Idx → EReal) (j : Fin 64) :
    broadcastInDim S1x64 ![1] bcast_S64_S1x64_1 (shapeCast S64 x shapeCasts_S1x64_S64) (ix2 0 j) = x (ix2 0 j) := by
  pointwise []

theorem host_q1 : V m c main_v1 = broadcastInDim S1x64 ![1] bcast_S64_S1x64_1 (shapeCast S64 (m ((c : Thread nD τ).loc main_arg0) : S1x64.Idx → EReal) shapeCasts_S1x64_S64) := by
  show StableHlo.after hostOps0 (fun b => m (c, b)) main_v1 = _
  after_results_simp
  rfl

theorem host_k1 : V m c main_v3 = broadcastInDim S1x64 ![1] bcast_S64_S1x64_1 (shapeCast S64 (m ((c : Thread nD τ).loc main_arg1) : S1x64.Idx → EReal) shapeCasts_S1x64_S64) := by
  show StableHlo.after hostOps0 (fun b => m (c, b)) main_v3 = _
  after_results_simp
  rfl

theorem host_q2 : V m c main_v5 = broadcastInDim S1x64 ![1] bcast_S64_S1x64_1 (shapeCast S64 (m ((c : Thread nD τ).loc main_arg2) : S1x64.Idx → EReal) shapeCasts_S1x64_S64) := by
  show StableHlo.after hostOps0 (fun b => m (c, b)) main_v5 = _
  after_results_simp
  rfl

theorem host_k2 : V m c main_v7 = broadcastInDim S1x64 ![1] bcast_S64_S1x64_1 (shapeCast S64 (m ((c : Thread nD τ).loc main_arg3) : S1x64.Idx → EReal) shapeCasts_S1x64_S64) := by
  show StableHlo.after hostOps0 (fun b => m (c, b)) main_v7 = _
  after_results_simp
  rfl

variable (t : Fin cfg0.N)

theorem shown_q1 (j : Fin 64) : iblk m c 0 t (ix2 0 j) = (m ((c : Thread nD τ).loc main_arg0) : S1x64.Idx → EReal) (ix2 0 j) := by
  refine Eq.trans ?_ (row_read _ j)
  rw [← host_q1 m c]
  show V m c main_v1 _ = _
  congr 1
  funext a
  apply Fin.ext
  match a with
  | 0 => show 0 * 1 + 1 * 0 = 0; omega
  | 1 => show 0 * 64 + 1 * j.val = j.val; omega

theorem shown_k1 (j : Fin 64) : iblk m c 1 t (ix2 0 j) = (m ((c : Thread nD τ).loc main_arg1) : S1x64.Idx → EReal) (ix2 0 j) := by
  refine Eq.trans ?_ (row_read _ j)
  rw [← host_k1 m c]
  show V m c main_v3 _ = _
  congr 1
  funext a
  apply Fin.ext
  match a with
  | 0 => show 0 * 1 + 1 * 0 = 0; omega
  | 1 => show 0 * 64 + 1 * j.val = j.val; omega

theorem shown_q2 (j : Fin 64) : iblk m c 2 t (ix2 0 j) = (m ((c : Thread nD τ).loc main_arg2) : S1x64.Idx → EReal) (ix2 0 j) := by
  refine Eq.trans ?_ (row_read _ j)
  rw [← host_q2 m c]
  show V m c main_v5 _ = _
  congr 1
  funext a
  apply Fin.ext
  match a with
  | 0 => show 0 * 1 + 1 * 0 = 0; omega
  | 1 => show 0 * 64 + 1 * j.val = j.val; omega

theorem shown_k2 (j : Fin 64) : iblk m c 3 t (ix2 0 j) = (m ((c : Thread nD τ).loc main_arg3) : S1x64.Idx → EReal) (ix2 0 j) := by
  refine Eq.trans ?_ (row_read _ j)
  rw [← host_k2 m c]
  show V m c main_v7 _ = _
  congr 1
  funext a
  apply Fin.ext
  match a with
  | 0 => show 0 * 1 + 1 * 0 = 0; omega
  | 1 => show 0 * 64 + 1 * j.val = j.val; omega

/-- The call's result: one number. -/
def result : S1x1.Idx → EReal := fun _ =>
  weight (m ((c : Thread nD τ).loc main_arg0)) (m ((c : Thread nD τ).loc main_arg1)) (m ((c : Thread nD τ).loc main_arg2)) (m ((c : Thread nD τ).loc main_arg3))

theorem only (y : S1x1.Idx) : y = ix2 0 0 := by
  rw [eq_ix2 y]
  exact congrArg₂ ix2 (Subsingleton.elim (α := Fin 1) _ _) (Subsingleton.elim (α := Fin 1) _ _)

theorem flushed_eq : (dats m 0 c).flushed 4 t = (win0_4.blk t).view.read (Elt Ideal) (result m c) := by
  rw [Value.flushed4]
  funext y
  obtain rfl := only y
  refine (block_read _ _ _ _).trans ?_
  show _ = weight _ _ _ _
  unfold weight
  simp only [shown_q1, shown_k1, shown_q2, shown_k2]

theorem cover (i : S1x1.Idx) : ∃ t : Fin cfg0.N, (cfg0.win 4).flush t = true ∧ i ∈ ((cfg0.win 4).blk t).view.set := by
  let t : Fin cfg0.N := ⟨0, by decide⟩
  refine ⟨t, flush0_4 t, ?_⟩
  have h : i = ((win0_4.blk t).view.emb (ix2 0 0) : S1x1.Idx) := (only i).trans (only _).symm
  rw [h]
  exact Finset.mem_map_of_mem _ (Finset.mem_univ _)

/-- After the call, its array holds the weight. -/
theorem final : (dats m 0 c).arrAt 4 cfg0.N = result m c :=
  (dats m 0 c).arrAt_eq_of_cover 4 (result m c) (fun t _ => flushed_eq m c t) cover

end

section
open Cert.Reference4Ideal Cert.Reference4Ideal.Gen

/-- The weight as the reference computes it. -/
def reference {F : FTy → Type} [FloatOps F] (q1 k1 q2 k2 : FVec F S1x64 .f32) : FVec F S1x1 .f32 :=
  shapeCast _ (addf (subf (Host.exp (Host.reduceAdd (mulf (shapeCast _ q1 shapeCasts_S1x64_S64) (shapeCast _ k1 shapeCasts_S1x64_S64)) (constant S_ .f32 0x00000000#32) reducesTo_S64_S_d0 h_S_))
    (Host.exp (Host.reduceAdd (mulf (shapeCast _ q2 shapeCasts_S1x64_S64) (shapeCast _ k2 shapeCasts_S1x64_S64)) (constant S_ .f32 0x00000000#32) reducesTo_S64_S_d0 h_S_)))
    (constant S_ .f32 0x3E4CCCCD#32)) shapeCasts_S_S1x1

theorem reference_read (q1 k1 q2 k2 : FVec Ideal S1x64 .f32) : reference q1 k1 q2 k2 = fun _ => weight q1 k1 q2 k2 := by
  funext y
  rw [show y = ix2 0 0 from by rw [eq_ix2 y]; exact congrArg₂ ix2 (Subsingleton.elim (α := Fin 1) _ _) (Subsingleton.elim (α := Fin 1) _ _)]
  pointwise [reference]
  rfl

end

end Cert.Proof.Lambda

end
-- ==== Proof.Ref.Stages.lean ====
/- The reference's attention in steps: the masked scores, their softmax, the difference of the two maps, the weighted
   values, and the norm. -/
module

public import proofs.«01_k».proof.Proof.Gen.ReferenceIdeal.Run

@[expose] public section

set_option maxRecDepth 16384

noncomputable section

namespace Cert.Proof.Ref

open Cert.ReferenceIdeal Cert.ReferenceIdeal.Gen Cert.ReferenceIdeal.Value
open Idealize.ShloMosaic Idealize.ShloMosaic.TcCoe

variable {F : FTy → Type} [FloatOps F]

/-- How far position `n` lies before position `q`. -/
def dist : FVec F S8192x8192 .f32 :=
  sitofp .f32 (subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0))))

/-- The distance penalty of each head. -/
def penalty : FVec F S4x1x8192x8192 .f32 :=
  mulf (broadcastInDim S4x1x8192x8192 ![0, 1, 2, 3] bcast_S4x1x1x1_S4x1x8192x8192_0_1_2_3
      (Host.negf (broadcastInDim S4x1x1x1 ![0] bcast_S4_S4x1x1x1_0 fun i => FloatOps.ofBits .f32 (lit0 (S4.rowMajor i)))))
    (broadcastInDim S4x1x8192x8192 ![0, 1, 2, 3] bcast_S1x1x8192x8192_S4x1x8192x8192_0_1_2_3
      (broadcastInDim S1x1x8192x8192 ![2, 3] bcast_S8192x8192_S1x1x8192x8192_2_3 dist))

/-- The products of queries and keys. -/
def products (x : FVec F S4x8192x3072 .f32) : FVec F S4x4x2x8192x8192 .f32 :=
  Host.dotGeneral dot_S4x8192x4x2x64_S4x8192x4x2x64_S4x4x2x8192x8192_4_4_1_1_023_023 none
    (shapeCast S4x8192x4x2x64 (extractStridedSlice S4x8192x512 ![0, 0, 1536] x slices_S4x8192x3072_S4x8192x512_0_0_1536) shapeCasts_S4x8192x512_S4x8192x4x2x64)
    (shapeCast S4x8192x4x2x64 (extractStridedSlice S4x8192x512 ![0, 0, 2048] x slices_S4x8192x3072_S4x8192x512_0_0_2048) shapeCasts_S4x8192x512_S4x8192x4x2x64)

/-- The scores, `−∞` at the positions not attended to. -/
def scores (x : FVec F S4x8192x3072 .f32) : FVec F S4x4x2x8192x8192 .f32 :=
  select (broadcastInDim S4x4x2x8192x8192 ![3, 4] bcast_S8192x8192_S4x4x2x8192x8192_3_4
      (cmpf .oge (dist (F := F)) (broadcastInDim S8192x8192 ![] bcast_S_S8192x8192 (constant S_ .f32 0x00000000#32))))
    (addf (mulf (products x) (broadcastInDim S4x4x2x8192x8192 ![] bcast_S_S4x4x2x8192x8192 (constant S_ .f32 0x3E000000#32)))
      (broadcastInDim S4x4x2x8192x8192 ![0, 1, 2, 3, 4] bcast_S1x4x1x8192x8192_S4x4x2x8192x8192_0_1_2_3_4
        (broadcastInDim S1x4x1x8192x8192 ![1, 2, 3, 4] bcast_S4x1x8192x8192_S1x4x1x8192x8192_1_2_3_4 penalty)))
    (broadcastInDim S4x4x2x8192x8192 ![] bcast_S_S4x4x2x8192x8192 (id (constant S_ .f32 0xFF800000#32)))

/-- The scores' maxima. -/
def maxima (s : FVec F S4x4x2x8192x8192 .f32) : FVec F S4x4x2x8192 .f32 :=
  maximumf (broadcastInDim S4x4x2x8192 ![] bcast_S_S4x4x2x8192 (constant S_ .f32 0xFF800000#32))
    (Host.reduce FloatOps.maximumf s (constant S_ .f32 0xFF800000#32) reducesTo_S4x4x2x8192x8192_S4x4x2x8192_d4 h_S_)

/-- The exponentials of the scores under their maxima. -/
def exps (s : FVec F S4x4x2x8192x8192 .f32) : FVec F S4x4x2x8192x8192 .f32 :=
  Host.exp (subf s (broadcastInDim S4x4x2x8192x8192 ![0, 1, 2, 3, 4] bcast_S4x4x2x8192x1_S4x4x2x8192x8192_0_1_2_3_4
    (broadcastInDim S4x4x2x8192x1 ![0, 1, 2, 3] bcast_S4x4x2x8192_S4x4x2x8192x1_0_1_2_3 (maxima s))))

/-- The exponentials over their sums. -/
def shares (e : FVec F S4x4x2x8192x8192 .f32) : FVec F S4x4x2x8192x8192 .f32 :=
  Host.divf e (broadcastInDim S4x4x2x8192x8192 ![0, 1, 2, 3, 4] bcast_S4x4x2x8192x1_S4x4x2x8192x8192_0_1_2_3_4
    (broadcastInDim S4x4x2x8192x1 ![0, 1, 2, 3] bcast_S4x4x2x8192_S4x4x2x8192x1_0_1_2_3
      (Host.reduceAdd e (constant S_ .f32 0x00000000#32) reducesTo_S4x4x2x8192x8192_S4x4x2x8192_d4 h_S_)))

/-- The first map less the weighted second. -/
def mixed (p : FVec F S4x4x2x8192x8192 .f32) (l : FVec F S1x1 .f32) : FVec F S4x4x8192x8192 .f32 :=
  subf (shapeCast S4x4x8192x8192 (extractStridedSlice S4x4x1x8192x8192 ![0, 0, 0, 0, 0] p slices_S4x4x2x8192x8192_S4x4x1x8192x8192_0_0_0_0_0) shapeCasts_S4x4x1x8192x8192_S4x4x8192x8192)
    (mulf (broadcastInDim S4x4x8192x8192 ![] bcast_S_S4x4x8192x8192 (shapeCast S_ l shapeCasts_S1x1_S_))
      (shapeCast S4x4x8192x8192 (extractStridedSlice S4x4x1x8192x8192 ![0, 0, 1, 0, 0] p slices_S4x4x2x8192x8192_S4x4x1x8192x8192_0_0_1_0_0) shapeCasts_S4x4x1x8192x8192_S4x4x8192x8192))

/-- The values summed under a map. -/
def heads (x : FVec F S4x8192x3072 .f32) (a : FVec F S4x4x8192x8192 .f32) : FVec F S4x8192x4x128 .f32 :=
  transpose S4x8192x4x128 [0, 3, 1, 2] (Host.dotGeneral dot_S4x8192x4x128_S4x4x8192x8192_S4x4x128x8192_1_3_3_2_02_01 none
    (shapeCast S4x8192x4x128 (extractStridedSlice S4x8192x512 ![0, 0, 2560] x slices_S4x8192x3072_S4x8192x512_0_0_2560) shapeCasts_S4x8192x512_S4x8192x4x128) a) transposes_S4x4x128x8192_S4x8192x4x128_0_3_1_2

/-- The norm of each head's output, scaled by the gains. -/
def normed (o : FVec F S4x8192x4x128 .f32) (g : FVec F S1x128 .f32) : FVec F S4x8192x512 .f32 :=
  shapeCast S4x8192x512 (mulf (mulf (mulf o
      (broadcastInDim S4x8192x4x128 ![0, 1, 2, 3] bcast_S4x8192x4x1_S4x8192x4x128_0_1_2_3
        (Host.rsqrt (addf (Host.divf (broadcastInDim S4x8192x4x1 ![0, 1, 2] bcast_S4x8192x4_S4x8192x4x1_0_1_2
            (Host.reduceAdd (mulf o o) (constant S_ .f32 0x00000000#32) reducesTo_S4x8192x4x128_S4x8192x4_d3 h_S_))
          (broadcastInDim S4x8192x4x1 ![] bcast_S_S4x8192x4x1 (constant S_ .f32 0x43000000#32)))
          (broadcastInDim S4x8192x4x1 ![] bcast_S_S4x8192x4x1 (constant S_ .f32 0x358637BD#32))))))
      (broadcastInDim S4x8192x4x128 ![0, 1, 2, 3] bcast_S1x1x1x128_S4x8192x4x128_0_1_2_3
        (broadcastInDim S1x1x1x128 ![3] bcast_S128_S1x1x1x128_3 (shapeCast S128 g shapeCasts_S1x128_S128))))
    (broadcastInDim S4x8192x4x128 ![] bcast_S_S4x8192x4x128 (constant S_ .f32 0x3F4CCCCD#32))) shapeCasts_S4x8192x4x128_S4x8192x512

/-- The reference's result, step by step. -/
theorem result_eq (m : (ℓ : Loc nD τ sig) → Buf (Elt F) ℓ) (c : Dev nD) :
    res_main_v65 m c = normed (heads (m ((c.tc : Thread nD τ).loc main_arg0))
      (mixed (shares (exps (scores (m ((c.tc : Thread nD τ).loc main_arg0))))) (m ((c.tc : Thread nD τ).loc main_arg1))))
      (m ((c.tc : Thread nD τ).loc main_arg2)) := by
  unfold res_main_v65; rfl

end Cert.Proof.Ref

end
-- ==== Proof.Ref.Maxima.lean ====
/- A row's maximum of the reference's scores is a real number when one of them is. -/
module

public import proofs.«01_k».proof.Proof.Ref.Stages
public import Idealize.ShloMosaic.Lib.Pointwise

@[expose] public section

set_option maxRecDepth 16384

noncomputable section

namespace Cert.Proof.Ref

open Cert.ReferenceIdeal Cert.ReferenceIdeal.Gen Cert.ReferenceIdeal.Value
open Idealize.ShloMosaic Idealize.ShloMosaic.TcCoe

section
variable {s t u : Shape} {ax : List (Fin s.rank)}

theorem reduce_max_real (x : s.Idx → EReal) (init : u.Idx → EReal) (h' : s.ReducesTo ax t) (hu : 0 < u.numel) (j : t.Idx)
    (hi : ∀ i, init i = ⊥) (hx : ∀ i, x i ≠ ⊤) (i : s.Idx) (hd : h'.drop i = j) (hb : x i ≠ ⊥) :
    ∃ M : ℝ, maximumf (φ := .f32) (F := Ideal) (fun _ => ⊥) (Host.reduce (FloatOps.maximumf (F := Ideal) (φ := .f32)) x init h' hu) j = ((M : ℝ) : EReal) := by
  classical
  have hop : (FloatOps.maximumf : Ideal .f32 → Ideal .f32 → Ideal .f32) = (max : EReal → EReal → EReal) := rfl
  rw [hop]
  show ∃ M : ℝ, max ⊥ (Host.reduce (max : EReal → EReal → EReal) x init h' hu j) = ((M : ℝ) : EReal)
  rw [max_eq_right bot_le]
  rw [Host.reduce_eq_fold, hi]
  have h1 := ((Finset.fold_max_lt (s := Finset.univ.filter fun i => h'.drop i = j) (f := x) (b := (⊥ : EReal)) ⊤).mpr ⟨bot_lt_top, fun k _ => (hx k).lt_top⟩).ne
  have h2 := (Finset.fold_max_le (s := Finset.univ.filter fun i => h'.drop i = j) (f := x) (b := (⊥ : EReal)) _).mp le_rfl
  have h3 := h2.2 i (by simp [hd])
  exact ⟨_, (EReal.coe_toReal h1 (fun e => hb (le_bot_iff.mp (e ▸ h3)))).symm⟩
end

theorem drop_five {n0 n1 n2 n3 n4 : ℕ} (H : (⟨5, ![n0, n1, n2, n3, n4]⟩ : Shape).ReducesTo [4] ⟨4, ![n0, n1, n2, n3]⟩)
    (a : Fin n0) (b : Fin n1) (c : Fin n2) (d : Fin n3) (e : Fin n4) : H.drop (ix5 a b c d e) = ix4 a b c d :=
  (H.fiber_r5_a4 _ _).mpr ⟨e, rfl⟩

/-- The word of `−∞`. -/
theorem fold_inf : Ideal.ofBits .f32 0xFF800000#32 = ⊥ := by simp [Ideal.ofBits, Ideal.ieee]

theorem floor_eq : (broadcastInDim S4x4x2x8192 ![] bcast_S_S4x4x2x8192 (constant (F := Ideal) S_ .f32 0xFF800000#32) : FVec Ideal S4x4x2x8192 .f32) = fun _ => (⊥ : EReal) := by
  funext i
  exact fold_inf

/-- A row's maximum is a real number when no score is `+∞` and one is not `−∞`. -/
theorem maxima_real (s : FVec Ideal S4x4x2x8192x8192 .f32) (hs : ∀ i, s i ≠ (⊤ : EReal)) (b h : Fin 4) (u : Fin 2) (q n : Fin 8192) (hn : s (ix5 b h u q n) ≠ (⊥ : EReal)) :
    ∃ M : ℝ, maxima s (ix4 b h u q) = ((M : ℝ) : EReal) := by
  unfold maxima
  rw [floor_eq]
  exact reduce_max_real s (constant (F := Ideal) S_ .f32 0xFF800000#32) reducesTo_S4x4x2x8192x8192_S4x4x2x8192_d4 h_S_ (ix4 b h u q)
    (fun _ => fold_inf) hs (ix5 b h u q n) (drop_five (n0 := 4) (n1 := 4) (n2 := 2) (n3 := 8192) (n4 := 8192) reducesTo_S4x4x2x8192x8192_S4x4x2x8192_d4 b h u q n) hn

end Cert.Proof.Ref

end
-- ==== Proof.Ref.Read.lean ====
/- The reference's steps read at an index. -/
module

public import proofs.«01_k».proof.Proof.Ref.Maxima
public import proofs.«01_k».proof.Proof.Attend
public import Idealize.ShloMosaic.Lib.Pointwise

@[expose] public section

set_option maxRecDepth 16384

noncomputable section

namespace Cert.Proof.Ref

open Cert.ReferenceIdeal Cert.ReferenceIdeal.Gen Cert.ReferenceIdeal.Value
open Idealize.ShloMosaic Idealize.ShloMosaic.TcCoe

theorem word_int (n : ℕ) (h : n < 8192) : (BitVec.ofNat 32 n).toInt = (n : ℤ) := by
  rw [← BitVec.ofInt_natCast, BitVec.toInt_ofInt, Int.bmod_eq_of_le] <;> omega

theorem sub_int (a b : ℕ) (ha : a < 8192) (hb : b < 8192) : (IntOp.subi (BitVec.ofNat 32 a) (BitVec.ofNat 32 b)).toInt = (a : ℤ) - b := by
  show (BitVec.ofNat 32 a - BitVec.ofNat 32 b).toInt = _
  rw [BitVec.toInt_sub, word_int a ha, word_int b hb, Int.bmod_eq_of_le] <;> omega

theorem dist_read (q n : Fin 8192) : dist (F := Ideal) (ix2 q n) = ((((q.val : ℝ) - n.val : ℝ)) : EReal) := by
  pointwise [dist]
  rw [show ∀ y : BitVec 32, (FloatOps.sitofp FTy.f32 y : Ideal .f32) = ((y.toInt : ℝ) : EReal) from fun _ => rfl, sub_int _ _ q.isLt n.isLt]
  push_cast
  rfl

theorem lit_eq (h : Fin 4) : lit0 (S4.rowMajor (ix1 h)) = slopeWord h := by
  fin_cases h <;> rfl

theorem penalty_read (h : Fin 4) (q n : Fin 8192) : penalty (F := Ideal) (ix4 h 0 q n) = ((-(slope h.val * ((q.val : ℝ) - n.val)) : ℝ) : EReal) := by
  pointwise [penalty]
  rw [dist_read, neg_mul_eq_neg_mul, EReal.coe_mul, EReal.coe_neg]
  rw [lit_eq, slope_word]

theorem products_read {x : FVec Ideal S4x8192x3072 .f32} (hx : Finite (x : S4x8192x3072.Idx → EReal)) (b h : Fin 4) (u : Fin 2) (q n : Fin 8192) :
    products x (ix5 b h u q n) = ((∑ d : Fin 64, reals x b q.val (1536 + (h.val * 128 + u.val * 64 + d.val)) * reals x b n.val (2048 + (h.val * 128 + u.val * 64 + d.val)) : ℝ) : EReal) := by
  pointwise [products]
  rw [← real_sum]
  refine Finset.sum_congr rfl fun d _ => ?_
  rw [EReal.coe_mul, ← reals_eq hx b q.isLt, ← reals_eq hx b n.isLt]

theorem eighth : Ideal.ofBits .f32 1040187392#32 = ((1 / 8 : ℝ) : EReal) := by
  simp only [Ideal.ofBits, Ideal.ieee]
  simp [-EReal.coe_mul, -EReal.coe_pow, -EReal.coe_natCast, -EReal.coe_add]
  norm_num

theorem scores_read {x : FVec Ideal S4x8192x3072 .f32} (hx : Finite (x : S4x8192x3072.Idx → EReal)) (b h : Fin 4) (u : Fin 2) (q n : Fin 8192) :
    scores x (ix5 b h u q n) = if n.val ≤ q.val then ((score (reals x b) h.val u.val q.val n.val : ℝ) : EReal) else ⊥ := by
  pointwise [scores]
  rw [dist_read, products_read hx, penalty_read, eighth]
  have hd : ((0 : EReal) ≤ ((((q.val : ℝ) - n.val : ℝ)) : EReal)) ↔ n.val ≤ q.val := by
    rw [EReal.coe_nonneg, sub_nonneg, Nat.cast_le]
  by_cases hn : n.val ≤ q.val
  · rw [if_pos (hd.mpr hn), if_pos hn, ← EReal.coe_mul, ← EReal.coe_add]
    unfold score
    rw [← sub_eq_add_neg]
  · rw [if_neg (fun e => hn (hd.mp e)), if_neg hn]
    exact fold_inf

theorem exps_read (s : FVec Ideal S4x4x2x8192x8192 .f32) (b h : Fin 4) (u : Fin 2) (q n : Fin 8192) :
    exps s (ix5 b h u q n) = Ideal.exp (s (ix5 b h u q n) - maxima s (ix4 b h u q)) := by
  pointwise [exps]

theorem shares_read (s : FVec Ideal S4x4x2x8192x8192 .f32) (b h : Fin 4) (u : Fin 2) (q n : Fin 8192) :
    shares s (ix5 b h u q n) = Ideal.div (s (ix5 b h u q n)) (∑ k, s (ix5 b h u q k)) := by
  pointwise [shares]

theorem mixed_read (s : FVec Ideal S4x4x2x8192x8192 .f32) (l : FVec Ideal S1x1 .f32) (b h : Fin 4) (q n : Fin 8192) :
    mixed s l (ix4 b h q n) = s (ix5 b h 0 q n) - l (ix2 0 0) * s (ix5 b h 1 q n) := by
  pointwise [mixed]

theorem heads_read (x : FVec Ideal S4x8192x3072 .f32) (a : FVec Ideal S4x4x8192x8192 .f32) (b h : Fin 4) (d : Fin 128) (q : Fin 8192) :
    heads x a (ix4 b q h d) = ∑ n, x (ix3 b n ⟨2560 + (h.val * 128 + d.val), by omega⟩) * a (ix4 b h q n) := by
  pointwise [heads]

theorem normed_read (o : FVec Ideal S4x8192x4x128 .f32) (g : FVec Ideal S1x128 .f32) (b : Fin 4) (c : Fin 512) (q : Fin 8192) :
    normed o g (ix3 b q c) = lastNorm (fun d => o (ix4 b q ⟨c.val / 128, by omega⟩ d)) (fun d => g (ix2 0 d)) ⟨c.val % 128, by omega⟩ := by
  pointwise [normed]
  rfl

theorem scores_ne_top {x : FVec Ideal S4x8192x3072 .f32} (hx : Finite (x : S4x8192x3072.Idx → EReal)) (i : S4x4x2x8192x8192.Idx) : scores x i ≠ (⊤ : EReal) := by
  have h : ∀ (b h : Fin 4) (u : Fin 2) (q n : Fin 8192), scores x (ix5 b h u q n) ≠ (⊤ : EReal) := fun b h u q n => by
    rw [scores_read hx]
    split_ifs
    · exact EReal.coe_ne_top _
    · exact bot_ne_top
  exact fun e => h (i 0) (i 1) (i 2) (i 3) (i 4) ((congrArg (scores x) (ix5_eta i)).trans e)

/-- The reference's softmax is the softmax of the real scores. -/
theorem weights_read {x : FVec Ideal S4x8192x3072 .f32} (hx : Finite (x : S4x8192x3072.Idx → EReal)) (b h : Fin 4) (u : Fin 2) (q n : Fin 8192) :
    shares (exps (scores x)) (ix5 b h u q n) = ((share (score (reals x b) h.val u.val q.val) q.val n.val : ℝ) : EReal) := by
  obtain ⟨M, hM⟩ := maxima_real (scores x) (scores_ne_top hx) b h u q q (by rw [scores_read hx, if_pos le_rfl]; exact EReal.coe_ne_bot _)
  have he : ∀ k : Fin 8192, exps (scores x) (ix5 b h u q k)
      = (((fun k : ℕ => if k ≤ q.val then Real.exp (-M) * Real.exp (score (reals x b) h.val u.val q.val k) else 0) k.val : ℝ) : EReal) := fun k => by
    rw [exps_read, hM, scores_read hx]
    dsimp only
    split_ifs
    · rw [← EReal.coe_sub, Ideal.exp_coe, sub_eq_neg_add, Real.exp_add]
    · rw [EReal.bot_sub, Ideal.exp_bot]; rfl
  rw [shares_read, Finset.sum_congr rfl fun k _ => he k, he n, real_sum]
  have hs := share_of (score (reals x b) h.val u.val q.val) (fun k : ℕ => if k ≤ q.val then Real.exp (-M) * Real.exp (score (reals x b) h.val u.val q.val k) else 0)
    (N := 8192) (Real.exp_pos (-M)) q.isLt (fun n hn => if_pos hn) (fun n hn => if_neg (by omega)) n.val
  have hp := weights_pos (score (reals x b) h.val u.val q.val) (fun k : ℕ => if k ≤ q.val then Real.exp (-M) * Real.exp (score (reals x b) h.val u.val q.val k) else 0)
    (N := 8192) (Real.exp_pos (-M)) q.isLt (fun n hn => if_pos hn) (fun n hn => if_neg (by omega))
  rw [Finset.sum_range] at hs hp
  rw [div_real _ _ hp.ne', hs]

/-- The reference's result at a column of a head. -/
theorem result_read {x : FVec Ideal S4x8192x3072 .f32} {l : FVec Ideal S1x1 .f32} (hx : Finite (x : S4x8192x3072.Idx → EReal)) (hl : Finite (l : S1x1.Idx → EReal))
    (g : FVec Ideal S1x128 .f32) (b : Fin 4) (q : Fin 8192) (c : Fin 512) :
    normed (heads x (mixed (shares (exps (scores x))) l)) g (ix3 b q c) = resultAt x l g b q.val (c.val / 128) ⟨c.val % 128, by omega⟩ := by
  rw [normed_read]
  unfold resultAt
  congr 1
  funext d
  rw [heads_read]
  unfold attend
  rw [Finset.sum_range, ← real_sum]
  refine Finset.sum_congr rfl fun n _ => ?_
  rw [mixed_read, weights_read hx, weights_read hx, reals_eq hx b n.isLt, ← EReal.coe_toReal (hl (ix2 0 0)).1 (hl (ix2 0 0)).2,
    ← EReal.coe_mul, ← EReal.coe_sub, ← EReal.coe_mul, EReal.coe_toReal (hl (ix2 0 0)).1 (hl (ix2 0 0)).2]
  rfl

end Cert.Proof.Ref

end
-- ==== Proof.Finite.lean ====
/- What the precondition says: the projected array and the weight of the second map are real throughout. -/
module

public import proofs.«01_k».proof.Pre_finite
public import proofs.«01_k».proof.Proof.Attend
public import Idealize.ShloMosaic.Lib.ReduceAll
public import Idealize.ShloMosaic.Lib.Pointwise

@[expose] public section

noncomputable section

namespace Cert.Proof

open Idealize.ShloMosaic

/-- The shape relations the precondition's operations take. -/
instance finite_facts : Cert.Pre_finite.Facts where
  bcast_S_S4x8192x3072 := by decide
  reducesTo_S4x8192x3072_S_d0_1_2 := by decide
  h_S_ := by decide
  bcast_S_S1x1 := by decide
  reducesTo_S1x1_S_d0_1 := by decide

/-- An extended real whose absolute value is below `+∞` is a real number. -/
theorem of_below {a : EReal} (h : Ideal.cmp .olt (max a (-a)) ⊤ = 1#1) : a ≠ ⊤ ∧ a ≠ ⊥ := by
  have hlt : max a (-a) < ⊤ := by
    by_contra hn
    simp [Ideal.cmp, hn] at h
  refine ⟨fun e => ?_, fun e => ?_⟩ <;> subst e <;> simp at hlt

/-- The word of `+∞`. -/
theorem top_word : (FloatOps.ofBits (F := Ideal) .f32 0x7F800000#32 : EReal) = ⊤ := by
  show Ideal.ofBits .f32 0x7F800000#32 = ⊤
  simp [Ideal.ofBits, Ideal.ieee]

theorem and_left {a b : BitVec 1} (h : a &&& b = 1#1) : a = 1#1 := by revert a b; decide
theorem and_right {a b : BitVec 1} (h : a &&& b = 1#1) : b = 1#1 := by revert a b; decide

theorem finite_of {x : FVec Ideal Cert.Pre_finite.S4x8192x3072 .f32} {l : FVec Ideal Cert.Pre_finite.S1x1 .f32} {g : FVec Ideal Cert.Pre_finite.S1x128 .f32}
    (h : Cert.Pre_finite.fn (F := Ideal) x l g = fun _ => 1#1) :
    Finite (x : Cert.Pre_finite.S4x8192x3072.Idx → EReal) ∧ Finite (l : Cert.Pre_finite.S1x1.Idx → EReal) := by
  have h0 := congrFun h (fun a => a.elim0)
  haveI : Subsingleton Cert.Pre_finite.S_.Idx := ⟨fun a b => funext fun i => i.elim0⟩
  refine ⟨fun i => of_below ?_, fun i => of_below ?_⟩
  · have := Host.reduce_andi_all _ _ _ _ _ (and_left h0) i
    rw [← top_word]; exact this
  · have := Host.reduce_andi_all _ _ _ _ _ (and_right h0) i
    rw [← top_word]; exact this

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.K.Frame
public import proofs.«01_k».proof.Proof.KI.Frame
public import proofs.«01_k».proof.Proof.KI.Value
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Out.Value
public import proofs.«01_k».proof.Proof.Out.RefValue
public import proofs.«01_k».proof.Proof.Qkv.Value
public import proofs.«01_k».proof.Proof.Qkv.RefValue
public import proofs.«01_k».proof.Proof.Lambda.Value
public import proofs.«01_k».proof.Proof.Ref.Read
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run leaves its arguments unchanged; it declares no semaphore. -/
theorem reference_kept (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono
    (fun r h => ⟨fun c => (h c).2, Idealize.ShloMosaic.sem_eq_zero_of_no_sems (by decide) r.2⟩)
    (Cert.ReferenceIdeal.Value.run m g)

/-- Each named constant is, at the ideal instance, the value its name stands for. -/
theorem named_values : Cert.preserves_Kernel_KernelIdeal :=
  ⟨IdealRules.named_const.statement Cert.KernelIdeal.κ "q_scale" .f32 0x3E38AA3B#32 (((1 / 8) * (Real.log 2)⁻¹ : ℝ) : EReal) rfl,
   IdealRules.named_const.statement Cert.KernelIdeal.κ "log2e" .f32 0x3FB8AA3B#32 (((Real.log 2)⁻¹ : ℝ) : EReal) rfl,
   IdealRules.named_const.statement Cert.KernelIdeal.κ "neg_big" .f32 0xF149F2CA#32 ⊥ rfl,
   IdealRules.named_const.statement Cert.KernelIdeal.κ "zero_weight" .f32 0x431C0000#32 ⊤ rfl⟩

/-- From equal arguments the kernel and the reference both end holding the attention. -/
theorem same : Cert.algebraic_KernelIdeal_ReferenceIdeal_pre_finite := by
  intro m g m' g' hp ha
  have hx : ∀ c, Finite (Cert.Proof.KI.argX m c) := fun c => (finite_of (hp c)).1
  have hl : ∀ c, Finite (Cert.Proof.KI.argL m c) := fun c => (finite_of (hp c)).2
  refine ⟨fun c => Cert.Proof.KI.attention m c, Cert.Proof.KI.value m g hx hl, ?_⟩
  refine (θ_run (Cert.ReferenceIdeal.defs (F := Ideal)) _ _).mono (fun r h c => ⟨(h c).1.trans ?_, (h c).2⟩) (Cert.ReferenceIdeal.Value.run m' g')
  obtain ⟨h0, h1, h2⟩ := ha c
  rw [Cert.Proof.Ref.result_eq m' c, h0, h1, h2]
  funext i
  rw [eq_ix3 i]
  exact Cert.Proof.Ref.result_read (hx c) (hl c) _ _ _ _

/-- The last call's reference likewise leaves its arguments unchanged. -/
theorem reference2_kept (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0) :=
  (θ_run (Cert.Reference2Ideal.defs (F := Ideal)) _ _).mono
    (fun r h => ⟨fun c => (h c).2, Idealize.ShloMosaic.sem_eq_zero_of_no_sems (by decide) r.2⟩)
    (Cert.Reference2Ideal.Value.run m g)

/-- From equal arguments the last call and its reference both end holding the merged rows. -/
theorem same2 : Cert.algebraic_Kernel2Ideal_Reference2Ideal := by
  intro m g m' g' _ ha
  refine ⟨fun c => Cert.Proof.Out.result m c, ?_, ?_⟩
  · exact (θ_run (Cert.Kernel2Ideal.defs (F := Ideal)) _ _).mono (fun r h c => ⟨(h c).1.trans (Cert.Proof.Out.final m c), (h c).2⟩)
      (Cert.Kernel2Ideal.Value.run_blocks m g)
  · refine (θ_run (Cert.Reference2Ideal.defs (F := Ideal)) _ _).mono (fun r h c => ⟨(h c).1.trans ?_, (h c).2⟩) (Cert.Reference2Ideal.Value.run m' g')
    obtain ⟨h0, h1, h2, h3, h4, h5, h6, h7, h8, h9⟩ := ha c
    rw [Cert.Proof.OutRef.value_read m' c, h0, h1, h2, h3, h4, h5, h6, h7, h8, h9]
    rfl

/-- The first call's reference leaves its arguments unchanged. -/
theorem reference3_kept (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run (Cert.Reference3Ideal.defs (F := Ideal)) _ _).mono
    (fun r h => ⟨fun c => (h c).2, Idealize.ShloMosaic.sem_eq_zero_of_no_sems (by decide) r.2⟩)
    (Cert.Reference3Ideal.Value.run m g)

/-- From equal arguments the first call and its reference both end holding the queries, keys and values. -/
theorem same3 : Cert.algebraic_Kernel3Ideal_Reference3Ideal := by
  intro m g m' g' _ ha
  refine ⟨fun c => Cert.Proof.Qkv.result m c, ?_, ?_⟩
  · exact (θ_run (Cert.Kernel3Ideal.defs (F := Ideal)) _ _).mono (fun r h c => ⟨(h c).1.trans (Cert.Proof.Qkv.final m c), (h c).2⟩)
      (Cert.Kernel3Ideal.Value.run_blocks m g)
  · refine (θ_run (Cert.Reference3Ideal.defs (F := Ideal)) _ _).mono (fun r h c => ⟨(h c).1.trans ?_, (h c).2⟩) (Cert.Reference3Ideal.Value.run m' g')
    obtain ⟨h0, h1, h2, h3⟩ := ha c
    rw [Cert.Proof.QkvRef.value_read m' c, h0, h1, h2, h3]
    rfl

/-- The weight's reference leaves its arguments unchanged. -/
theorem reference4_kept (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0) :=
  (θ_run (Cert.Reference4Ideal.defs (F := Ideal)) _ _).mono
    (fun r h => ⟨fun c => (h c).2, Idealize.ShloMosaic.sem_eq_zero_of_no_sems (by decide) r.2⟩)
    (Cert.Reference4Ideal.Value.run m g)

/-- From equal arguments the weight's call and its reference both end holding the weight. -/
theorem same4 : Cert.algebraic_Kernel4Ideal_Reference4Ideal := by
  intro m g m' g' _ ha
  refine ⟨fun c => Cert.Proof.Lambda.result m c, ?_, ?_⟩
  · exact (θ_run (Cert.Kernel4Ideal.defs (F := Ideal)) _ _).mono (fun r h c => ⟨(h c).1.trans (Cert.Proof.Lambda.final m c), (h c).2⟩)
      (Cert.Kernel4Ideal.Value.run_blocks m g)
  · refine (θ_run (Cert.Reference4Ideal.defs (F := Ideal)) _ _).mono (fun r h c => ⟨(h c).1.trans ?_, (h c).2⟩) (Cert.Reference4Ideal.Value.run m' g')
    obtain ⟨h0, h1, h2, h3⟩ := ha c
    refine (Cert.Proof.Lambda.reference_read _ _ _ _).trans ?_
    rw [h0, h1, h2, h3]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, finite_facts,
  fun m g _ => Cert.Proof.K.kept m g, fun m g _ => Cert.Proof.KI.kept m g, fun m g _ => Cert.Proof.KI.kept m g,
  fun m g _ => reference_kept m g, fun m g _ => reference_kept m g,
  fun m g _ => Cert.Kernel2.Gen.frame m g, fun m g _ => Cert.Kernel2Ideal.Gen.frame m g, fun m g _ => reference2_kept m g,
  fun m g _ => Cert.Kernel3.Gen.frame m g, fun m g _ => Cert.Kernel3Ideal.Gen.frame m g, fun m g _ => reference3_kept m g,
  fun m g _ => Cert.Kernel4.Gen.frame m g, fun m g _ => Cert.Kernel4Ideal.Gen.frame m g, fun m g _ => reference4_kept m g,
  named_values, same, trivial, same2, trivial, same3, trivial, same4⟩

end Cert.Proof

end
